-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11)
      ∧ r.2.mem ((c.tc : Thread Cert.Kernel5.nD Cert.Kernel5.τ).loc Cert.Kernel5.main_arg12) = m ((c.tc : Thread Cert.Kernel5.nD Cert.Kernel5.τ).loc Cert.Kernel5.main_arg12))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v21_0)) (v1 : (c : Dev Cert.Kernel3Ideal.nD) → Buf (Elt Ideal) ((c.tc : Thread Cert.Kernel3Ideal.nD Cert.Kernel3Ideal.τ).loc Cert.Kernel3Ideal.main_v21_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v21_0) = v0 c
          ∧ r.2.mem ((c.tc : Thread Cert.Kernel3Ideal.nD Cert.Kernel3Ideal.τ).loc Cert.Kernel3Ideal.main_v21_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v40) = v0 c
          ∧ r.2.mem ((c.tc : Thread Cert.Reference3Ideal.nD Cert.Reference3Ideal.τ).loc Cert.Reference3Ideal.main_v42) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)
      ∧ m' ((c.tc : Thread Cert.Reference5Ideal.nD Cert.Reference5Ideal.τ).loc Cert.Reference5Ideal.main_arg12) = m ((c.tc : Thread Cert.Kernel5Ideal.nD Cert.Kernel5Ideal.τ).loc Cert.Kernel5Ideal.main_arg12)) →
    ∃ (v0 : (c : Dev Cert.Kernel5Ideal.nD) → Buf (Elt Ideal) ((c.tc : Thread Cert.Kernel5Ideal.nD Cert.Kernel5Ideal.τ).loc Cert.Kernel5Ideal.main_v97_0)) (v1 : (c : Dev Cert.Kernel5Ideal.nD) → Buf (Elt Ideal) ((c.tc : Thread Cert.Kernel5Ideal.nD Cert.Kernel5Ideal.τ).loc Cert.Kernel5Ideal.main_v97_1)) (v2 : (c : Dev Cert.Kernel5Ideal.nD) → Buf (Elt Ideal) ((c.tc : Thread Cert.Kernel5Ideal.nD Cert.Kernel5Ideal.τ).loc Cert.Kernel5Ideal.main_v97_2)) (v3 : (c : Dev Cert.Kernel5Ideal.nD) → Buf (Elt Ideal) ((c.tc : Thread Cert.Kernel5Ideal.nD Cert.Kernel5Ideal.τ).loc Cert.Kernel5Ideal.main_v97_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v97_0) = v0 c
          ∧ r.2.mem ((c.tc : Thread Cert.Kernel5Ideal.nD Cert.Kernel5Ideal.τ).loc Cert.Kernel5Ideal.main_v97_1) = v1 c
          ∧ r.2.mem ((c.tc : Thread Cert.Kernel5Ideal.nD Cert.Kernel5Ideal.τ).loc Cert.Kernel5Ideal.main_v97_2) = v2 c
          ∧ r.2.mem ((c.tc : Thread Cert.Kernel5Ideal.nD Cert.Kernel5Ideal.τ).loc Cert.Kernel5Ideal.main_v97_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
          ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v21) = v0 c
          ∧ r.2.mem ((c.tc : Thread Cert.Reference5Ideal.nD Cert.Reference5Ideal.τ).loc Cert.Reference5Ideal.main_v24) = v1 c
          ∧ r.2.mem ((c.tc : Thread Cert.Reference5Ideal.nD Cert.Reference5Ideal.τ).loc Cert.Reference5Ideal.main_v26) = v2 c
          ∧ r.2.mem ((c.tc : Thread Cert.Reference5Ideal.nD Cert.Reference5Ideal.τ).loc Cert.Reference5Ideal.main_v34) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11)
          ∧ r.2.mem ((c.tc : Thread Cert.Reference5Ideal.nD Cert.Reference5Ideal.τ).loc Cert.Reference5Ideal.main_arg12) = m' ((c.tc : Thread Cert.Reference5Ideal.nD Cert.Reference5Ideal.τ).loc Cert.Reference5Ideal.main_arg12))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite.lean ====
abbrev S2x6x16384x128 : Shape := ⟨4, ![2, 6, 16384, 128]⟩
abbrev S2x6x16384x64 : Shape := ⟨4, ![2, 6, 16384, 64]⟩
abbrev S2x16384x64 : Shape := ⟨3, ![2, 16384, 64]⟩
abbrev S_ : Shape := ⟨0, ![]⟩

class Facts : Prop where
  bcast_S_S2x6x16384x128 : S_.BroadcastsInDim S2x6x16384x128 (![] : Fin 0 → Fin S2x6x16384x128.rank)
  reducesTo_S2x6x16384x128_S_d0_1_2_3 : S2x6x16384x128.ReducesTo [0, 1, 2, 3] S_
  h_S_ : 0 < S_.numel
  bcast_S_S2x6x16384x64 : S_.BroadcastsInDim S2x6x16384x64 (![] : Fin 0 → Fin S2x6x16384x64.rank)
  reducesTo_S2x6x16384x64_S_d0_1_2_3 : S2x6x16384x64.ReducesTo [0, 1, 2, 3] S_
  bcast_S_S2x16384x64 : S_.BroadcastsInDim S2x16384x64 (![] : Fin 0 → Fin S2x16384x64.rank)
  reducesTo_S2x16384x64_S_d0_1_2 : S2x16384x64.ReducesTo [0, 1, 2] S_

variable [Facts]

def fn_part1 {F : FTy → Type} [FloatOps F] (main_v13 : IVec S_ 1) (main_v16 : IVec S2x16384x64 1) : IVec S_ 1 :=
  let main_c_5 : IVec S_ 1 := constantI S_ 1 1#1
  let main_v17 : IVec S_ 1 := (fun x v => Host.reduce IntOp.andi x v reducesTo_S2x16384x64_S_d0_1_2 h_S_) main_v16 main_c_5
  let main_v18 : IVec S_ 1 := andi main_v13 main_v17
  main_v18

def fn {F : FTy → Type} [FloatOps F] (main_arg0 : FVec F S2x6x16384x128 .f32) (main_arg1 : FVec F S2x6x16384x64 .f32) (main_arg2 : FVec F S2x6x16384x128 .f32) (main_arg3 : FVec F S2x16384x64 .f32) (main_arg4 : FVec F S2x6x16384x128 .f32) : IVec S_ 1 :=
  let main_v0 : FVec F S2x6x16384x128 .f32 := Host.absf main_arg0
  let main_cst : FVec F S_ .f32 := constant S_ .f32 0x7F800000#32
  let main_v1 : FVec F S2x6x16384x128 .f32 := broadcastInDim S2x6x16384x128 ![] bcast_S_S2x6x16384x128 main_cst
  let main_v2 : IVec S2x6x16384x128 1 := cmpf .olt main_v0 main_v1
  let main_c : IVec S_ 1 := constantI S_ 1 1#1
  let main_v3 : IVec S_ 1 := (fun x v => Host.reduce IntOp.andi x v reducesTo_S2x6x16384x128_S_d0_1_2_3 h_S_) main_v2 main_c
  let main_v4 : FVec F S2x6x16384x64 .f32 := Host.absf main_arg1
  let main_cst_0 : FVec F S_ .f32 := constant S_ .f32 0x7F800000#32
  let main_v5 : FVec F S2x6x16384x64 .f32 := broadcastInDim S2x6x16384x64 ![] bcast_S_S2x6x16384x64 main_cst_0
  let main_v6 : IVec S2x6x16384x64 1 := cmpf .olt main_v4 main_v5
  let main_c_1 : IVec S_ 1 := constantI S_ 1 1#1
  let main_v7 : IVec S_ 1 := (fun x v => Host.reduce IntOp.andi x v reducesTo_S2x6x16384x64_S_d0_1_2_3 h_S_) main_v6 main_c_1
  let main_v8 : IVec S_ 1 := andi main_v3 main_v7
  let main_v9 : FVec F S2x6x16384x128 .f32 := Host.absf main_arg2
  let main_cst_2 : FVec F S_ .f32 := constant S_ .f32 0x7F800000#32
  let main_v10 : FVec F S2x6x16384x128 .f32 := broadcastInDim S2x6x16384x128 ![] bcast_S_S2x6x16384x128 main_cst_2
  let main_v11 : IVec S2x6x16384x128 1 := cmpf .olt main_v9 main_v10
  let main_c_3 : IVec S_ 1 := constantI S_ 1 1#1
  let main_v12 : IVec S_ 1 := (fun x v => Host.reduce IntOp.andi x v reducesTo_S2x6x16384x128_S_d0_1_2_3 h_S_) main_v11 main_c_3
  let main_v13 : IVec S_ 1 := andi main_v8 main_v12
  let main_v14 : FVec F S2x16384x64 .f32 := Host.absf main_arg3
  let main_cst_4 : FVec F S_ .f32 := constant S_ .f32 0x7F800000#32
  let main_v15 : FVec F S2x16384x64 .f32 := broadcastInDim S2x16384x64 ![] bcast_S_S2x16384x64 main_cst_4
  let main_v16 : IVec S2x16384x64 1 := cmpf .olt main_v14 main_v15
  fn_part1 (F := F) main_v13 main_v16
-- ==== Kernel.lean ====
abbrev S2x6x16384x128 : Shape := ⟨4, ![2, 6, 16384, 128]⟩
abbrev S2x6x16384x64 : Shape := ⟨4, ![2, 6, 16384, 64]⟩
abbrev S2x16384x64 : Shape := ⟨3, ![2, 16384, 64]⟩
abbrev S_ : Shape := ⟨0, ![]⟩
abbrev S6x2x16384x128 : Shape := ⟨4, ![6, 2, 16384, 128]⟩
abbrev S6x64x512x128 : Shape := ⟨4, ![6, 64, 512, 128]⟩
abbrev S6x64x128x512 : Shape := ⟨4, ![6, 64, 128, 512]⟩
abbrev S6x2x16384x64 : Shape := ⟨4, ![6, 2, 16384, 64]⟩
abbrev S6x64x512x64 : Shape := ⟨4, ![6, 64, 512, 64]⟩
abbrev S6x64x64x512 : Shape := ⟨4, ![6, 64, 64, 512]⟩
abbrev S6x64x256x512 : Shape := ⟨4, ![6, 64, 256, 512]⟩
abbrev S6x32768x128 : Shape := ⟨3, ![6, 32768, 128]⟩
abbrev S1x32768x64 : Shape := ⟨3, ![1, 32768, 64]⟩
abbrev S6x32768x64 : Shape := ⟨3, ![6, 32768, 64]⟩
abbrev S6x32768x256 : Shape := ⟨3, ![6, 32768, 256]⟩
abbrev S6x64x1x512 : Shape := ⟨4, ![6, 64, 1, 512]⟩
abbrev S6x64x15x512 : Shape := ⟨4, ![6, 64, 15, 512]⟩
abbrev S6x64x144x512 : Shape := ⟨4, ![6, 64, 144, 512]⟩
abbrev S32768x768 : Shape := ⟨2, ![32768, 768]⟩
abbrev S1x2x256x512 : Shape := ⟨4, ![1, 2, 256, 512]⟩
abbrev S1x16384x256 : Shape := ⟨3, ![1, 16384, 256]⟩
abbrev S1x32x144x512 : Shape := ⟨4, ![1, 32, 144, 512]⟩
abbrev S1024x128 : Shape := ⟨2, ![1024, 128]⟩
abbrev S2x2x512x512 : Shape := ⟨4, ![2, 2, 512, 512]⟩
abbrev S2x144x512 : Shape := ⟨3, ![2, 144, 512]⟩
abbrev S1x1x256x512 : Shape := ⟨4, ![1, 1, 256, 512]⟩
abbrev S256x512 : Shape := ⟨2, ![256, 512]⟩
abbrev S1x512x256 : Shape := ⟨3, ![1, 512, 256]⟩
abbrev S512x256 : Shape := ⟨2, ![512, 256]⟩
abbrev S512x512 : Shape := ⟨2, ![512, 512]⟩
abbrev S1x1x512x512 : Shape := ⟨4, ![1, 1, 512, 512]⟩
abbrev S512 : Shape := ⟨1, ![512]⟩
abbrev S1x512 : Shape := ⟨2, ![1, 512]⟩
abbrev S144x512 : Shape := ⟨2, ![144, 512]⟩
abbrev S1x144x512 : Shape := ⟨3, ![1, 144, 512]⟩
abbrev S1x1x144x512 : Shape := ⟨4, ![1, 1, 144, 512]⟩
abbrev S128x512 : Shape := ⟨2, ![128, 512]⟩
abbrev S512x128 : Shape := ⟨2, ![512, 128]⟩

abbrev nBuf : Space → Nat
  | .hbm => 45
  | .vmem => 10
  | .smem => 0
  | _ => 0

abbrev bufTy : (tb : Table) → Fin (tcTables nBuf tb) → BufTy
  | .hbm, ⟨0, _⟩ => ⟨S2x6x16384x128, .f32⟩
  | .hbm, ⟨1, _⟩ => ⟨S2x6x16384x64, .f32⟩
  | .hbm, ⟨2, _⟩ => ⟨S2x6x16384x128, .f32⟩
  | .hbm, ⟨3, _⟩ => ⟨S2x16384x64, .f32⟩
  | .hbm, ⟨4, _⟩ => ⟨S2x6x16384x128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S2x6x16384x128, .f32⟩
  | .hbm, ⟨11, _⟩ => ⟨S2x6x16384x128, .f32⟩
  | .hbm, ⟨12, _⟩ => ⟨S6x2x16384x128, .f32⟩
  | .hbm, ⟨13, _⟩ => ⟨S6x64x512x128, .f32⟩
  | .hbm, ⟨14, _⟩ => ⟨S6x64x128x512, .f32⟩
  | .hbm, ⟨15, _⟩ => ⟨S6x64x128x512, .bf16⟩
  | .hbm, ⟨16, _⟩ => ⟨S_, .f32⟩
  | .hbm, ⟨17, _⟩ => ⟨S2x6x16384x64, .f32⟩
  | .hbm, ⟨18, _⟩ => ⟨S2x6x16384x64, .f32⟩
  | .hbm, ⟨19, _⟩ => ⟨S6x2x16384x64, .f32⟩
  | .hbm, ⟨20, _⟩ => ⟨S6x64x512x64, .f32⟩
  | .hbm, ⟨21, _⟩ => ⟨S6x64x64x512, .f32⟩
  | .hbm, ⟨22, _⟩ => ⟨S6x64x64x512, .bf16⟩
  | .hbm, ⟨23, _⟩ => ⟨S_, .bf16⟩
  | .hbm, ⟨24, _⟩ => ⟨S6x64x64x512, .bf16⟩
  | .hbm, ⟨25, _⟩ => ⟨S6x64x256x512, .bf16⟩
  | .hbm, ⟨26, _⟩ => ⟨S6x2x16384x128, .f32⟩
  | .hbm, ⟨27, _⟩ => ⟨S6x32768x128, .f32⟩
  | .hbm, ⟨28, _⟩ => ⟨S6x32768x128, .bf16⟩
  | .hbm, ⟨29, _⟩ => ⟨S1x32768x64, .f32⟩
  | .hbm, ⟨30, _⟩ => ⟨S1x32768x64, .bf16⟩
  | .hbm, ⟨31, _⟩ => ⟨S6x32768x64, .bf16⟩
  | .hbm, ⟨32, _⟩ => ⟨S_, .bf16⟩
  | .hbm, ⟨33, _⟩ => ⟨S6x32768x64, .bf16⟩
  | .hbm, ⟨34, _⟩ => ⟨S6x32768x256, .bf16⟩
  | .hbm, ⟨35, _⟩ => ⟨S_, .bf16⟩
  | .hbm, ⟨36, _⟩ => ⟨S6x64x1x512, .bf16⟩
  | .hbm, ⟨37, _⟩ => ⟨S_, .bf16⟩
  | .hbm, ⟨38, _⟩ => ⟨S6x64x15x512, .bf16⟩
  | .hbm, ⟨39, _⟩ => ⟨S6x2x16384x128, .f32⟩
  | .hbm, ⟨40, _⟩ => ⟨S6x64x512x128, .f32⟩
  | .hbm, ⟨41, _⟩ => ⟨S6x64x128x512, .f32⟩
  | .hbm, ⟨42, _⟩ => ⟨S6x64x128x512, .bf16⟩
  | .hbm, ⟨43, _⟩ => ⟨S6x64x144x512, .bf16⟩
  | .hbm, ⟨44, _⟩ => ⟨S32768x768, .bf16⟩
  | .local _ .vmem, ⟨0, _⟩ => ⟨S1x2x256x512, .bf16⟩
  | .local _ .vmem, ⟨1, _⟩ => ⟨S1x2x256x512, .bf16⟩
  | .local _ .vmem, ⟨2, _⟩ => ⟨S1x16384x256, .bf16⟩
  | .local _ .vmem, ⟨3, _⟩ => ⟨S1x16384x256, .bf16⟩
  | .local _ .vmem, ⟨4, _⟩ => ⟨S1x32x144x512, .bf16⟩
  | .local _ .vmem, ⟨5, _⟩ => ⟨S1x32x144x512, .bf16⟩
  | .local _ .vmem, ⟨6, _⟩ => ⟨S1024x128, .bf16⟩
  | .local _ .vmem, ⟨7, _⟩ => ⟨S1024x128, .bf16⟩
  | .local _ .vmem, ⟨8, _⟩ => ⟨S2x2x512x512, .f32⟩
  | .local _ .vmem, ⟨9, _⟩ => ⟨S2x144x512, .f32⟩
  | _, _ => ⟨S2x6x16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 6, 16], ![false, false, false]⟩

def k0_mult1 : BitVec 32 :=
  let c0_i32 : BitVec 32 := 0#32
  c0_i32
@[reducible] def k0_t1_loop : Scf.Loop 32 :=
  let c0_i32_15 : BitVec 32 := 0#32
  let c2_i32 : BitVec 32 := 2#32
  let v17 : BitVec 32 := Scalar.addi c0_i32_15 c2_i32
  let c1_i32 : BitVec 32 := 1#32
  ⟨c0_i32_15, v17, c1_i32⟩
def k0_mult2 (k0_t1 : Fin k0_t1_loop.trips) : BitVec 32 :=
  let c16_i32 : BitVec 32 := 16#32
  let c0_i32_15 : BitVec 32 := 0#32
  let c1_i32 : BitVec 32 := 1#32
  let arg9 : BitVec 32 := Scf.iv c0_i32_15 c1_i32 k0_t1
  let v56 : BitVec 32 := Scalar.muli c16_i32 arg9
  let c0_i32_47 : BitVec 32 := 0#32
  let v57 : BitVec 32 := Scalar.addi v56 c0_i32_47
  let c1_i32_48 : BitVec 32 := 1#32
  let v58 : BitVec 32 := Scalar.addi v57 c1_i32_48
  let c31_i32 : BitVec 32 := 31#32
  let v59 : BitVec 32 := Scalar.minsi v58 c31_i32
  let c512_i32 : BitVec 32 := 512#32
  let v60 : BitVec 32 := Scalar.muli v59 c512_i32
  v60
def k0_off1 (k0_t1 : Fin k0_t1_loop.trips) (c0_i32_47 : BitVec 32) : Fin 3 → Nat :=
  let c0_49 : Index := 0#32
  let c16_i32 : BitVec 32 := 16#32
  let c0_i32_15 : BitVec 32 := 0#32
  let c1_i32 : BitVec 32 := 1#32
  let arg9 : BitVec 32 := Scf.iv c0_i32_15 c1_i32 k0_t1
  let v56 : BitVec 32 := Scalar.muli c16_i32 arg9
  let v57 : BitVec 32 := Scalar.addi v56 c0_i32_47
  let c1_i32_48 : BitVec 32 := 1#32
  let v58 : BitVec 32 := Scalar.addi v57 c1_i32_48
  let c31_i32 : BitVec 32 := 31#32
  let v59 : BitVec 32 := Scalar.minsi v58 c31_i32
  let c512_i32 : BitVec 32 := 512#32
  let v60 : BitVec 32 := Scalar.muli v59 c512_i32
  let v61 : BitVec 32 := v60
  let v62 : Index := Scalar.indexCast v61
  let c0_50 : Index := 0#32
  ![0, v62.toNat, 0]
def k0_off2 (k0_t1 : Fin k0_t1_loop.trips) (c0_i32_57 : BitVec 32) : Fin 4 → Nat :=
  let c0_65 : Index := 0#32
  let c16_i32 : BitVec 32 := 16#32
  let c0_i32_15 : BitVec 32 := 0#32
  let c1_i32 : BitVec 32 := 1#32
  let arg9 : BitVec 32 := Scf.iv c0_i32_15 c1_i32 k0_t1
  let v56 : BitVec 32 := Scalar.muli c16_i32 arg9
  let v71 : BitVec 32 := Scalar.addi v56 c0_i32_57
  let v85 : Index := Scalar.indexCast v71
  let c0_66 : Index := 0#32
  let c0_67 : Index := 0#32
  ![0, v85.toNat, 0, 0]
def k0_mult3 (k0_t1 : Fin k0_t1_loop.trips) : BitVec 32 :=
  let c16_i32 : BitVec 32 := 16#32
  let c0_i32_15 : BitVec 32 := 0#32
  let c1_i32 : BitVec 32 := 1#32
  let arg9 : BitVec 32 := Scf.iv c0_i32_15 c1_i32 k0_t1
  let v56 : BitVec 32 := Scalar.muli c16_i32 arg9
  let c1_i32_72 : BitVec 32 := 1#32
  let v93 : BitVec 32 := Scalar.addi v56 c1_i32_72
  let c1_i32_73 : BitVec 32 := 1#32
  let v94 : BitVec 32 := Scalar.addi v93 c1_i32_73
  let c31_i32_74 : BitVec 32 := 31#32
  let v95 : BitVec 32 := Scalar.minsi v94 c31_i32_74
  let c512_i32_75 : BitVec 32 := 512#32
  let v96 : BitVec 32 := Scalar.muli v95 c512_i32_75
  v96
def k0_mult4 (k0_t1 : Fin k0_t1_loop.trips) : BitVec 32 :=
  let c16_i32 : BitVec 32 := 16#32
  let c0_i32_15 : BitVec 32 := 0#32
  let c1_i32 : BitVec 32 := 1#32
  let arg9 : BitVec 32 := Scf.iv c0_i32_15 c1_i32 k0_t1
  let v56 : BitVec 32 := Scalar.muli c16_i32 arg9
  let c2_i32_99 : BitVec 32 := 2#32
  let v129 : BitVec 32 := Scalar.addi v56 c2_i32_99
  let c1_i32_100 : BitVec 32 := 1#32
  let v130 : BitVec 32 := Scalar.addi v129 c1_i32_100
  let c31_i32_101 : BitVec 32 := 31#32
  let v131 : BitVec 32 := Scalar.minsi v130 c31_i32_101
  let c512_i32_102 : BitVec 32 := 512#32
  let v132 : BitVec 32 := Scalar.muli v131 c512_i32_102
  v132
def k0_mult5 (k0_t1 : Fin k0_t1_loop.trips) : BitVec 32 :=
  let c16_i32 : BitVec 32 := 16#32
  let c0_i32_15 : BitVec 32 := 0#32
  let c1_i32 : BitVec 32 := 1#32
  let arg9 : BitVec 32 := Scf.iv c0_i32_15 c1_i32 k0_t1
  let v56 : BitVec 32 := Scalar.muli c16_i32 arg9
  let c3_i32 : BitVec 32 := 3#32
  let v165 : BitVec 32 := Scalar.addi v56 c3_i32
  let c1_i32_126 : BitVec 32 := 1#32
  let v166 : BitVec 32 := Scalar.addi v165 c1_i32_126
  let c31_i32_127 : BitVec 32 := 31#32
  let v167 : BitVec 32 := Scalar.minsi v166 c31_i32_127
  let c512_i32_128 : BitVec 32 := 512#32
  let v168 : BitVec 32 := Scalar.muli v167 c512_i32_128
  v168
def k0_mult6 (k0_t1 : Fin k0_t1_loop.trips) : BitVec 32 :=
  let c16_i32 : BitVec 32 := 16#32
  let c0_i32_15 : BitVec 32 := 0#32
  let c1_i32 : BitVec 32 := 1#32
  let arg9 : BitVec 32 := Scf.iv c0_i32_15 c1_i32 k0_t1
  let v56 : BitVec 32 := Scalar.muli c16_i32 arg9
  let c4_i32 : BitVec 32 := 4#32
  let v201 : BitVec 32 := Scalar.addi v56 c4_i32
  let c1_i32_152 : BitVec 32 := 1#32
  let v202 : BitVec 32 := Scalar.addi v201 c1_i32_152
  let c31_i32_153 : BitVec 32 := 31#32
  let v203 : BitVec 32 := Scalar.minsi v202 c31_i32_153
  let c512_i32_154 : BitVec 32 := 512#32
  let v204 : BitVec 32 := Scalar.muli v203 c512_i32_154
  v204
def k0_mult7 (k0_t1 : Fin k0_t1_loop.trips) : BitVec 32 :=
  let c16_i32 : BitVec 32 := 16#32
  let c0_i32_15 : BitVec 32 := 0#32
  let c1_i32 : BitVec 32 := 1#32
  let arg9 : BitVec 32 := Scf.iv c0_i32_15 c1_i32 k0_t1
  let v56 : BitVec 32 := Scalar.muli c16_i32 arg9
  let c5_i32 : BitVec 32 := 5#32
  let v237 : BitVec 32 := Scalar.addi v56 c5_i32
  let c1_i32_178 : BitVec 32 := 1#32
  let v238 : BitVec 32 := Scalar.addi v237 c1_i32_178
  let c31_i32_179 : BitVec 32 := 31#32
  let v239 : BitVec 32 := Scalar.minsi v238 c31_i32_179
  let c512_i32_180 : BitVec 32 := 512#32
  let v240 : BitVec 32 := Scalar.muli v239 c512_i32_180
  v240
def k0_mult8 (k0_t1 : Fin k0_t1_loop.trips) : BitVec 32 :=
  let c16_i32 : BitVec 32 := 16#32
  let c0_i32_15 : BitVec 32 := 0#32
  let c1_i32 : BitVec 32 := 1#32
  let arg9 : BitVec 32 := Scf.iv c0_i32_15 c1_i32 k0_t1
  let v56 : BitVec 32 := Scalar.muli c16_i32 arg9
  let c6_i32 : BitVec 32 := 6#32
  let v273 : BitVec 32 := Scalar.addi v56 c6_i32
  let c1_i32_204 : BitVec 32 := 1#32
  let v274 : BitVec 32 := Scalar.addi v273 c1_i32_204
  let c31_i32_205 : BitVec 32 := 31#32
  let v275 : BitVec 32 := Scalar.minsi v274 c31_i32_205
  let c512_i32_206 : BitVec 32 := 512#32
  let v276 : BitVec 32 := Scalar.muli v275 c512_i32_206
  v276
def k0_mult9 (k0_t1 : Fin k0_t1_loop.trips) : BitVec 32 :=
  let c16_i32 : BitVec 32 := 16#32
  let c0_i32_15 : BitVec 32 := 0#32
  let c1_i32 : BitVec 32 := 1#32
  let arg9 : BitVec 32 := Scf.iv c0_i32_15 c1_i32 k0_t1
  let v56 : BitVec 32 := Scalar.muli c16_i32 arg9
  let c7_i32 : BitVec 32 := 7#32
  let v309 : BitVec 32 := Scalar.addi v56 c7_i32
  let c1_i32_230 : BitVec 32 := 1#32
  let v310 : BitVec 32 := Scalar.addi v309 c1_i32_230
  let c31_i32_231 : BitVec 32 := 31#32
  let v311 : BitVec 32 := Scalar.minsi v310 c31_i32_231
  let c512_i32_232 : BitVec 32 := 512#32
  let v312 : BitVec 32 := Scalar.muli v311 c512_i32_232
  v312
def k0_mult10 (k0_t1 : Fin k0_t1_loop.trips) : BitVec 32 :=
  let c16_i32 : BitVec 32 := 16#32
  let c0_i32_15 : BitVec 32 := 0#32
  let c1_i32 : BitVec 32 := 1#32
  let arg9 : BitVec 32 := Scf.iv c0_i32_15 c1_i32 k0_t1
  let v56 : BitVec 32 := Scalar.muli c16_i32 arg9
  let c8_i32 : BitVec 32 := 8#32
  let v345 : BitVec 32 := Scalar.addi v56 c8_i32
  let c1_i32_256 : BitVec 32 := 1#32
  let v346 : BitVec 32 := Scalar.addi v345 c1_i32_256
  let c31_i32_257 : BitVec 32 := 31#32
  let v347 : BitVec 32 := Scalar.minsi v346 c31_i32_257
  let c512_i32_258 : BitVec 32 := 512#32
  let v348 : BitVec 32 := Scalar.muli v347 c512_i32_258
  v348
def k0_mult11 (k0_t1 : Fin k0_t1_loop.trips) : BitVec 32 :=
  let c16_i32 : BitVec 32 := 16#32
  let c0_i32_15 : BitVec 32 := 0#32
  let c1_i32 : BitVec 32 := 1#32
  let arg9 : BitVec 32 := Scf.iv c0_i32_15 c1_i32 k0_t1
  let v56 : BitVec 32 := Scalar.muli c16_i32 arg9
  let c9_i32 : BitVec 32 := 9#32
  let v381 : BitVec 32 := Scalar.addi v56 c9_i32
  let c1_i32_282 : BitVec 32 := 1#32
  let v382 : BitVec 32 := Scalar.addi v381 c1_i32_282
  let c31_i32_283 : BitVec 32 := 31#32
  let v383 : BitVec 32 := Scalar.minsi v382 c31_i32_283
  let c512_i32_284 : BitVec 32 := 512#32
  let v384 : BitVec 32 := Scalar.muli v383 c512_i32_284
  v384
def k0_mult12 (k0_t1 : Fin k0_t1_loop.trips) : BitVec 32 :=
  let c16_i32 : BitVec 32 := 16#32
  let c0_i32_15 : BitVec 32 := 0#32
  let c1_i32 : BitVec 32 := 1#32
  let arg9 : BitVec 32 := Scf.iv c0_i32_15 c1_i32 k0_t1
  let v56 : BitVec 32 := Scalar.muli c16_i32 arg9
  let c10_i32 : BitVec 32 := 10#32
  let v417 : BitVec 32 := Scalar.addi v56 c10_i32
  let c1_i32_308 : BitVec 32 := 1#32
  let v418 : BitVec 32 := Scalar.addi v417 c1_i32_308
  let c31_i32_309 : BitVec 32 := 31#32
  let v419 : BitVec 32 := Scalar.minsi v418 c31_i32_309
  let c512_i32_310 : BitVec 32 := 512#32
  let v420 : BitVec 32 := Scalar.muli v419 c512_i32_310
  v420
def k0_mult13 (k0_t1 : Fin k0_t1_loop.trips) : BitVec 32 :=
  let c16_i32 : BitVec 32 := 16#32
  let c0_i32_15 : BitVec 32 := 0#32
  let c1_i32 : BitVec 32 := 1#32
  let arg9 : BitVec 32 := Scf.iv c0_i32_15 c1_i32 k0_t1
  let v56 : BitVec 32 := Scalar.muli c16_i32 arg9
  let c11_i32 : BitVec 32 := 11#32
  let v453 : BitVec 32 := Scalar.addi v56 c11_i32
  let c1_i32_334 : BitVec 32 := 1#32
  let v454 : BitVec 32 := Scalar.addi v453 c1_i32_334
  let c31_i32_335 : BitVec 32 := 31#32
  let v455 : BitVec 32 := Scalar.minsi v454 c31_i32_335
  let c512_i32_336 : BitVec 32 := 512#32
  let v456 : BitVec 32 := Scalar.muli v455 c512_i32_336
  v456
def k0_mult14 (k0_t1 : Fin k0_t1_loop.trips) : BitVec 32 :=
  let c16_i32 : BitVec 32 := 16#32
  let c0_i32_15 : BitVec 32 := 0#32
  let c1_i32 : BitVec 32 := 1#32
  let arg9 : BitVec 32 := Scf.iv c0_i32_15 c1_i32 k0_t1
  let v56 : BitVec 32 := Scalar.muli c16_i32 arg9
  let c12_i32 : BitVec 32 := 12#32
  let v489 : BitVec 32 := Scalar.addi v56 c12_i32
  let c1_i32_360 : BitVec 32 := 1#32
  let v490 : BitVec 32 := Scalar.addi v489 c1_i32_360
  let c31_i32_361 : BitVec 32 := 31#32
  let v491 : BitVec 32 := Scalar.minsi v490 c31_i32_361
  let c512_i32_362 : BitVec 32 := 512#32
  let v492 : BitVec 32 := Scalar.muli v491 c512_i32_362
  v492
def k0_mult15 (k0_t1 : Fin k0_t1_loop.trips) : BitVec 32 :=
  let c16_i32 : BitVec 32 := 16#32
  let c0_i32_15 : BitVec 32 := 0#32
  let c1_i32 : BitVec 32 := 1#32
  let arg9 : BitVec 32 := Scf.iv c0_i32_15 c1_i32 k0_t1
  let v56 : BitVec 32 := Scalar.muli c16_i32 arg9
  let c13_i32 : BitVec 32 := 13#32
  let v525 : BitVec 32 := Scalar.addi v56 c13_i32
  let c1_i32_386 : BitVec 32 := 1#32
  let v526 : BitVec 32 := Scalar.addi v525 c1_i32_386
  let c31_i32_387 : BitVec 32 := 31#32
  let v527 : BitVec 32 := Scalar.minsi v526 c31_i32_387
  let c512_i32_388 : BitVec 32 := 512#32
  let v528 : BitVec 32 := Scalar.muli v527 c512_i32_388
  v528
def k0_mult16 (k0_t1 : Fin k0_t1_loop.trips) : BitVec 32 :=
  let c16_i32 : BitVec 32 := 16#32
  let c0_i32_15 : BitVec 32 := 0#32
  let c1_i32 : BitVec 32 := 1#32
  let arg9 : BitVec 32 := Scf.iv c0_i32_15 c1_i32 k0_t1
  let v56 : BitVec 32 := Scalar.muli c16_i32 arg9
  let c14_i32 : BitVec 32 := 14#32
  let v561 : BitVec 32 := Scalar.addi v56 c14_i32
  let c1_i32_412 : BitVec 32 := 1#32
  let v562 : BitVec 32 := Scalar.addi v561 c1_i32_412
  let c31_i32_413 : BitVec 32 := 31#32
  let v563 : BitVec 32 := Scalar.minsi v562 c31_i32_413
  let c512_i32_414 : BitVec 32 := 512#32
  let v564 : BitVec 32 := Scalar.muli v563 c512_i32_414
  v564
def k0_mult17 (k0_t1 : Fin k0_t1_loop.trips) : BitVec 32 :=
  let c16_i32 : BitVec 32 := 16#32
  let c0_i32_15 : BitVec 32 := 0#32
  let c1_i32 : BitVec 32 := 1#32
  let arg9 : BitVec 32 := Scf.iv c0_i32_15 c1_i32 k0_t1
  let v56 : BitVec 32 := Scalar.muli c16_i32 arg9
  let c15_i32 : BitVec 32 := 15#32
  let v597 : BitVec 32 := Scalar.addi v56 c15_i32
  let c1_i32_438 : BitVec 32 := 1#32
  let v598 : BitVec 32 := Scalar.addi v597 c1_i32_438
  let c31_i32_439 : BitVec 32 := 31#32
  let v599 : BitVec 32 := Scalar.minsi v598 c31_i32_439
  let c512_i32_440 : BitVec 32 := 512#32
  let v600 : BitVec 32 := Scalar.muli v599 c512_i32_440
  v600
def k0_mult18 : BitVec 32 :=
  let c0_i32_25 : BitVec 32 := 0#32
  c0_i32_25
@[reducible] def k0_t2_loop : Scf.Loop 32 :=
  let c0_i32_39 : BitVec 32 := 0#32
  let c2_i32_40 : BitVec 32 := 2#32
  let v45 : BitVec 32 := Scalar.addi c0_i32_39 c2_i32_40
  let c1_i32_41 : BitVec 32 := 1#32
  ⟨c0_i32_39, v45, c1_i32_41⟩
def k0_mult19 (k0_t2 : Fin k0_t2_loop.trips) : BitVec 32 :=
  let c16_i32 : BitVec 32 := 16#32
  let c0_i32_39 : BitVec 32 := 0#32
  let c1_i32_41 : BitVec 32 := 1#32
  let arg9 : BitVec 32 := Scf.iv c0_i32_39 c1_i32_41 k0_t2
  let v56 : BitVec 32 := Scalar.muli c16_i32 arg9
  let c0_i32_47 : BitVec 32 := 0#32
  let v57 : BitVec 32 := Scalar.addi v56 c0_i32_47
  let c1_i32_48 : BitVec 32 := 1#32
  let v58 : BitVec 32 := Scalar.addi v57 c1_i32_48
  let c31_i32 : BitVec 32 := 31#32
  let v59 : BitVec 32 := Scalar.minsi v58 c31_i32
  let c512_i32 : BitVec 32 := 512#32
  let v60 : BitVec 32 := Scalar.muli v59 c512_i32
  v60
def k0_off3 (k0_t2 : Fin k0_t2_loop.trips) (c0_i32_47 : BitVec 32) : Fin 3 → Nat :=
  let c0_49 : Index := 0#32
  let c16_i32 : BitVec 32 := 16#32
  let c0_i32_39 : BitVec 32 := 0#32
  let c1_i32_41 : BitVec 32 := 1#32
  let arg9 : BitVec 32 := Scf.iv c0_i32_39 c1_i32_41 k0_t2
  let v56 : BitVec 32 := Scalar.muli c16_i32 arg9
  let v57 : BitVec 32 := Scalar.addi v56 c0_i32_47
  let c1_i32_48 : BitVec 32 := 1#32
  let v58 : BitVec 32 := Scalar.addi v57 c1_i32_48
  let c31_i32 : BitVec 32 := 31#32
  let v59 : BitVec 32 := Scalar.minsi v58 c31_i32
  let c512_i32 : BitVec 32 := 512#32
  let v60 : BitVec 32 := Scalar.muli v59 c512_i32
  let v61 : BitVec 32 := v60
  let v62 : Index := Scalar.indexCast v61
  let c0_50 : Index := 0#32
  ![0, v62.toNat, 0]
def k0_off4 (k0_t2 : Fin k0_t2_loop.trips) (c0_i32_57 : BitVec 32) : Fin 4 → Nat :=
  let c0_65 : Index := 0#32
  let c16_i32 : BitVec 32 := 16#32
  let c0_i32_39 : BitVec 32 := 0#32
  let c1_i32_41 : BitVec 32 := 1#32
  let arg9 : BitVec 32 := Scf.iv c0_i32_39 c1_i32_41 k0_t2
  let v56 : BitVec 32 := Scalar.muli c16_i32 arg9
  let v71 : BitVec 32 := Scalar.addi v56 c0_i32_57
  let v85 : Index := Scalar.indexCast v71
  let c0_66 : Index := 0#32
  let c0_67 : Index := 0#32
  ![0, v85.toNat, 0, 0]
def k0_mult20 (k0_t2 : Fin k0_t2_loop.trips) : BitVec 32 :=
  let c16_i32 : BitVec 32 := 16#32
  let c0_i32_39 : BitVec 32 := 0#32
  let c1_i32_41 : BitVec 32 := 1#32
  let arg9 : BitVec 32 := Scf.iv c0_i32_39 c1_i32_41 k0_t2
  let v56 : BitVec 32 := Scalar.muli c16_i32 arg9
  let c1_i32_72 : BitVec 32 := 1#32
  let v93 : BitVec 32 := Scalar.addi v56 c1_i32_72
  let c1_i32_73 : BitVec 32 := 1#32
  let v94 : BitVec 32 := Scalar.addi v93 c1_i32_73
  let c31_i32_74 : BitVec 32 := 31#32
  let v95 : BitVec 32 := Scalar.minsi v94 c31_i32_74
  let c512_i32_75 : BitVec 32 := 512#32
  let v96 : BitVec 32 := Scalar.muli v95 c512_i32_75
  v96
def k0_mult21 (k0_t2 : Fin k0_t2_loop.trips) : BitVec 32 :=
  let c16_i32 : BitVec 32 := 16#32
  let c0_i32_39 : BitVec 32 := 0#32
  let c1_i32_41 : BitVec 32 := 1#32
  let arg9 : BitVec 32 := Scf.iv c0_i32_39 c1_i32_41 k0_t2
  let v56 : BitVec 32 := Scalar.muli c16_i32 arg9
  let c2_i32_99 : BitVec 32 := 2#32
  let v129 : BitVec 32 := Scalar.addi v56 c2_i32_99
  let c1_i32_100 : BitVec 32 := 1#32
  let v130 : BitVec 32 := Scalar.addi v129 c1_i32_100
  let c31_i32_101 : BitVec 32 := 31#32
  let v131 : BitVec 32 := Scalar.minsi v130 c31_i32_101
  let c512_i32_102 : BitVec 32 := 512#32
  let v132 : BitVec 32 := Scalar.muli v131 c512_i32_102
  v132
def k0_mult22 (k0_t2 : Fin k0_t2_loop.trips) : BitVec 32 :=
  let c16_i32 : BitVec 32 := 16#32
  let c0_i32_39 : BitVec 32 := 0#32
  let c1_i32_41 : BitVec 32 := 1#32
  let arg9 : BitVec 32 := Scf.iv c0_i32_39 c1_i32_41 k0_t2
  let v56 : BitVec 32 := Scalar.muli c16_i32 arg9
  let c3_i32 : BitVec 32 := 3#32
  let v165 : BitVec 32 := Scalar.addi v56 c3_i32
  let c1_i32_126 : BitVec 32 := 1#32
  let v166 : BitVec 32 := Scalar.addi v165 c1_i32_126
  let c31_i32_127 : BitVec 32 := 31#32
  let v167 : BitVec 32 := Scalar.minsi v166 c31_i32_127
  let c512_i32_128 : BitVec 32 := 512#32
  let v168 : BitVec 32 := Scalar.muli v167 c512_i32_128
  v168
def k0_mult23 (k0_t2 : Fin k0_t2_loop.trips) : BitVec 32 :=
  let c16_i32 : BitVec 32 := 16#32
  let c0_i32_39 : BitVec 32 := 0#32
  let c1_i32_41 : BitVec 32 := 1#32
  let arg9 : BitVec 32 := Scf.iv c0_i32_39 c1_i32_41 k0_t2
  let v56 : BitVec 32 := Scalar.muli c16_i32 arg9
  let c4_i32 : BitVec 32 := 4#32
  let v201 : BitVec 32 := Scalar.addi v56 c4_i32
  let c1_i32_152 : BitVec 32 := 1#32
  let v202 : BitVec 32 := Scalar.addi v201 c1_i32_152
  let c31_i32_153 : BitVec 32 := 31#32
  let v203 : BitVec 32 := Scalar.minsi v202 c31_i32_153
  let c512_i32_154 : BitVec 32 := 512#32
  let v204 : BitVec 32 := Scalar.muli v203 c512_i32_154
  v204
def k0_mult24 (k0_t2 : Fin k0_t2_loop.trips) : BitVec 32 :=
  let c16_i32 : BitVec 32 := 16#32
  let c0_i32_39 : BitVec 32 := 0#32
  let c1_i32_41 : BitVec 32 := 1#32
  let arg9 : BitVec 32 := Scf.iv c0_i32_39 c1_i32_41 k0_t2
  let v56 : BitVec 32 := Scalar.muli c16_i32 arg9
  let c5_i32 : BitVec 32 := 5#32
  let v237 : BitVec 32 := Scalar.addi v56 c5_i32
  let c1_i32_178 : BitVec 32 := 1#32
  let v238 : BitVec 32 := Scalar.addi v237 c1_i32_178
  let c31_i32_179 : BitVec 32 := 31#32
  let v239 : BitVec 32 := Scalar.minsi v238 c31_i32_179
  let c512_i32_180 : BitVec 32 := 512#32
  let v240 : BitVec 32 := Scalar.muli v239 c512_i32_180
  v240
def k0_mult25 (k0_t2 : Fin k0_t2_loop.trips) : BitVec 32 :=
  let c16_i32 : BitVec 32 := 16#32
  let c0_i32_39 : BitVec 32 := 0#32
  let c1_i32_41 : BitVec 32 := 1#32
  let arg9 : BitVec 32 := Scf.iv c0_i32_39 c1_i32_41 k0_t2
  let v56 : BitVec 32 := Scalar.muli c16_i32 arg9
  let c6_i32 : BitVec 32 := 6#32
  let v273 : BitVec 32 := Scalar.addi v56 c6_i32
  let c1_i32_204 : BitVec 32 := 1#32
  let v274 : BitVec 32 := Scalar.addi v273 c1_i32_204
  let c31_i32_205 : BitVec 32 := 31#32
  let v275 : BitVec 32 := Scalar.minsi v274 c31_i32_205
  let c512_i32_206 : BitVec 32 := 512#32
  let v276 : BitVec 32 := Scalar.muli v275 c512_i32_206
  v276
def k0_mult26 (k0_t2 : Fin k0_t2_loop.trips) : BitVec 32 :=
  let c16_i32 : BitVec 32 := 16#32
  let c0_i32_39 : BitVec 32 := 0#32
  let c1_i32_41 : BitVec 32 := 1#32
  let arg9 : BitVec 32 := Scf.iv c0_i32_39 c1_i32_41 k0_t2
  let v56 : BitVec 32 := Scalar.muli c16_i32 arg9
  let c7_i32 : BitVec 32 := 7#32
  let v309 : BitVec 32 := Scalar.addi v56 c7_i32
  let c1_i32_230 : BitVec 32 := 1#32
  let v310 : BitVec 32 := Scalar.addi v309 c1_i32_230
  let c31_i32_231 : BitVec 32 := 31#32
  let v311 : BitVec 32 := Scalar.minsi v310 c31_i32_231
  let c512_i32_232 : BitVec 32 := 512#32
  let v312 : BitVec 32 := Scalar.muli v311 c512_i32_232
  v312
def k0_mult27 (k0_t2 : Fin k0_t2_loop.trips) : BitVec 32 :=
  let c16_i32 : BitVec 32 := 16#32
  let c0_i32_39 : BitVec 32 := 0#32
  let c1_i32_41 : BitVec 32 := 1#32
  let arg9 : BitVec 32 := Scf.iv c0_i32_39 c1_i32_41 k0_t2
  let v56 : BitVec 32 := Scalar.muli c16_i32 arg9
  let c8_i32 : BitVec 32 := 8#32
  let v345 : BitVec 32 := Scalar.addi v56 c8_i32
  let c1_i32_256 : BitVec 32 := 1#32
  let v346 : BitVec 32 := Scalar.addi v345 c1_i32_256
  let c31_i32_257 : BitVec 32 := 31#32
  let v347 : BitVec 32 := Scalar.minsi v346 c31_i32_257
  let c512_i32_258 : BitVec 32 := 512#32
  let v348 : BitVec 32 := Scalar.muli v347 c512_i32_258
  v348
def k0_mult28 (k0_t2 : Fin k0_t2_loop.trips) : BitVec 32 :=
  let c16_i32 : BitVec 32 := 16#32
  let c0_i32_39 : BitVec 32 := 0#32
  let c1_i32_41 : BitVec 32 := 1#32
  let arg9 : BitVec 32 := Scf.iv c0_i32_39 c1_i32_41 k0_t2
  let v56 : BitVec 32 := Scalar.muli c16_i32 arg9
  let c9_i32 : BitVec 32 := 9#32
  let v381 : BitVec 32 := Scalar.addi v56 c9_i32
  let c1_i32_282 : BitVec 32 := 1#32
  let v382 : BitVec 32 := Scalar.addi v381 c1_i32_282
  let c31_i32_283 : BitVec 32 := 31#32
  let v383 : BitVec 32 := Scalar.minsi v382 c31_i32_283
  let c512_i32_284 : BitVec 32 := 512#32
  let v384 : BitVec 32 := Scalar.muli v383 c512_i32_284
  v384
def k0_mult29 (k0_t2 : Fin k0_t2_loop.trips) : BitVec 32 :=
  let c16_i32 : BitVec 32 := 16#32
  let c0_i32_39 : BitVec 32 := 0#32
  let c1_i32_41 : BitVec 32 := 1#32
  let arg9 : BitVec 32 := Scf.iv c0_i32_39 c1_i32_41 k0_t2
  let v56 : BitVec 32 := Scalar.muli c16_i32 arg9
  let c10_i32 : BitVec 32 := 10#32
  let v417 : BitVec 32 := Scalar.addi v56 c10_i32
  let c1_i32_308 : BitVec 32 := 1#32
  let v418 : BitVec 32 := Scalar.addi v417 c1_i32_308
  let c31_i32_309 : BitVec 32 := 31#32
  let v419 : BitVec 32 := Scalar.minsi v418 c31_i32_309
  let c512_i32_310 : BitVec 32 := 512#32
  let v420 : BitVec 32 := Scalar.muli v419 c512_i32_310
  v420
def k0_mult30 (k0_t2 : Fin k0_t2_loop.trips) : BitVec 32 :=
  let c16_i32 : BitVec 32 := 16#32
  let c0_i32_39 : BitVec 32 := 0#32
  let c1_i32_41 : BitVec 32 := 1#32
  let arg9 : BitVec 32 := Scf.iv c0_i32_39 c1_i32_41 k0_t2
  let v56 : BitVec 32 := Scalar.muli c16_i32 arg9
  let c11_i32 : BitVec 32 := 11#32
  let v453 : BitVec 32 := Scalar.addi v56 c11_i32
  let c1_i32_334 : BitVec 32 := 1#32
  let v454 : BitVec 32 := Scalar.addi v453 c1_i32_334
  let c31_i32_335 : BitVec 32 := 31#32
  let v455 : BitVec 32 := Scalar.minsi v454 c31_i32_335
  let c512_i32_336 : BitVec 32 := 512#32
  let v456 : BitVec 32 := Scalar.muli v455 c512_i32_336
  v456
def k0_mult31 (k0_t2 : Fin k0_t2_loop.trips) : BitVec 32 :=
  let c16_i32 : BitVec 32 := 16#32
  let c0_i32_39 : BitVec 32 := 0#32
  let c1_i32_41 : BitVec 32 := 1#32
  let arg9 : BitVec 32 := Scf.iv c0_i32_39 c1_i32_41 k0_t2
  let v56 : BitVec 32 := Scalar.muli c16_i32 arg9
  let c12_i32 : BitVec 32 := 12#32
  let v489 : BitVec 32 := Scalar.addi v56 c12_i32
  let c1_i32_360 : BitVec 32 := 1#32
  let v490 : BitVec 32 := Scalar.addi v489 c1_i32_360
  let c31_i32_361 : BitVec 32 := 31#32
  let v491 : BitVec 32 := Scalar.minsi v490 c31_i32_361
  let c512_i32_362 : BitVec 32 := 512#32
  let v492 : BitVec 32 := Scalar.muli v491 c512_i32_362
  v492
def k0_mult32 (k0_t2 : Fin k0_t2_loop.trips) : BitVec 32 :=
  let c16_i32 : BitVec 32 := 16#32
  let c0_i32_39 : BitVec 32 := 0#32
  let c1_i32_41 : BitVec 32 := 1#32
  let arg9 : BitVec 32 := Scf.iv c0_i32_39 c1_i32_41 k0_t2
  let v56 : BitVec 32 := Scalar.muli c16_i32 arg9
  let c13_i32 : BitVec 32 := 13#32
  let v525 : BitVec 32 := Scalar.addi v56 c13_i32
  let c1_i32_386 : BitVec 32 := 1#32
  let v526 : BitVec 32 := Scalar.addi v525 c1_i32_386
  let c31_i32_387 : BitVec 32 := 31#32
  let v527 : BitVec 32 := Scalar.minsi v526 c31_i32_387
  let c512_i32_388 : BitVec 32 := 512#32
  let v528 : BitVec 32 := Scalar.muli v527 c512_i32_388
  v528
def k0_mult33 (k0_t2 : Fin k0_t2_loop.trips) : BitVec 32 :=
  let c16_i32 : BitVec 32 := 16#32
  let c0_i32_39 : BitVec 32 := 0#32
  let c1_i32_41 : BitVec 32 := 1#32
  let arg9 : BitVec 32 := Scf.iv c0_i32_39 c1_i32_41 k0_t2
  let v56 : BitVec 32 := Scalar.muli c16_i32 arg9
  let c14_i32 : BitVec 32 := 14#32
  let v561 : BitVec 32 := Scalar.addi v56 c14_i32
  let c1_i32_412 : BitVec 32 := 1#32
  let v562 : BitVec 32 := Scalar.addi v561 c1_i32_412
  let c31_i32_413 : BitVec 32 := 31#32
  let v563 : BitVec 32 := Scalar.minsi v562 c31_i32_413
  let c512_i32_414 : BitVec 32 := 512#32
  let v564 : BitVec 32 := Scalar.muli v563 c512_i32_414
  v564
def k0_mult34 (k0_t2 : Fin k0_t2_loop.trips) : BitVec 32 :=
  let c16_i32 : BitVec 32 := 16#32
  let c0_i32_39 : BitVec 32 := 0#32
  let c1_i32_41 : BitVec 32 := 1#32
  let arg9 : BitVec 32 := Scf.iv c0_i32_39 c1_i32_41 k0_t2
  let v56 : BitVec 32 := Scalar.muli c16_i32 arg9
  let c15_i32 : BitVec 32 := 15#32
  let v597 : BitVec 32 := Scalar.addi v56 c15_i32
  let c1_i32_438 : BitVec 32 := 1#32
  let v598 : BitVec 32 := Scalar.addi v597 c1_i32_438
  let c31_i32_439 : BitVec 32 := 31#32
  let v599 : BitVec 32 := Scalar.minsi v598 c31_i32_439
  let c512_i32_440 : BitVec 32 := 512#32
  let v600 : BitVec 32 := Scalar.muli v599 c512_i32_440
  v600
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  let c0_i32_0 : BitVec 32 := 0#32
  let c0_i32_1 : BitVec 32 := 0#32
  ![arg1.toNat, v1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S1x2x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x16384x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x32x144x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S2x6x16384x128 : Shape := ⟨4, ![2, 6, 16384, 128]⟩
abbrev S2x6x16384x64 : Shape := ⟨4, ![2, 6, 16384, 64]⟩
abbrev S2x16384x64 : Shape := ⟨3, ![2, 16384, 64]⟩
abbrev S2x6x16384x16384 : Shape := ⟨4, ![2, 6, 16384, 16384]⟩
abbrev S_ : Shape := ⟨0, ![]⟩
abbrev S2x6x16384 : Shape := ⟨3, ![2, 6, 16384]⟩
abbrev S2x6x16384x1 : Shape := ⟨4, ![2, 6, 16384, 1]⟩
abbrev S2x16384x6x128 : Shape := ⟨4, ![2, 16384, 6, 128]⟩
abbrev S32768x768 : Shape := ⟨2, ![32768, 768]⟩

abbrev nBuf : Space → Nat
  | .hbm => 29
  | .vmem => 0
  | .smem => 0
  | _ => 0

abbrev bufTy : (tb : Table) → Fin (tcTables nBuf tb) → BufTy
  | .hbm, ⟨0, _⟩ => ⟨S2x6x16384x128, .f32⟩
  | .hbm, ⟨1, _⟩ => ⟨S2x6x16384x64, .f32⟩
  | .hbm, ⟨2, _⟩ => ⟨S2x6x16384x128, .f32⟩
  | .hbm, ⟨3, _⟩ => ⟨S2x16384x64, .f32⟩
  | .hbm, ⟨4, _⟩ => ⟨S2x6x16384x128, .f32⟩
  | .hbm, ⟨5, _⟩ => ⟨S2x6x16384x16384, .f32⟩
  | .hbm, ⟨6, _⟩ => ⟨S2x6x16384x16384, .f32⟩
  | .hbm, ⟨7, _⟩ => ⟨S2x6x16384x16384, .f32⟩
  | .hbm, ⟨8, _⟩ => ⟨S_, .f32⟩
  | .hbm, ⟨9, _⟩ => ⟨S2x6x16384x16384, .f32⟩
  | .hbm, ⟨10, _⟩ => ⟨S2x6x16384x16384, .f32⟩
  | .hbm, ⟨11, _⟩ => ⟨S_, .f32⟩
  | .hbm, ⟨12, _⟩ => ⟨S2x6x16384, .f32⟩
  | .hbm, ⟨13, _⟩ => ⟨S_, .f32⟩
  | .hbm, ⟨14, _⟩ => ⟨S2x6x16384, .f32⟩
  | .hbm, ⟨15, _⟩ => ⟨S2x6x16384, .f32⟩
  | .hbm, ⟨16, _⟩ => ⟨S2x6x16384x1, .f32⟩
  | .hbm, ⟨17, _⟩ => ⟨S2x6x16384x16384, .f32⟩
  | .hbm, ⟨18, _⟩ => ⟨S2x6x16384x16384, .f32⟩
  | .hbm, ⟨19, _⟩ => ⟨S2x6x16384x16384, .f32⟩
  | .hbm, ⟨20, _⟩ => ⟨S_, .f32⟩
  | .hbm, ⟨21, _⟩ => ⟨S2x6x16384, .f32⟩
  | .hbm, ⟨22, _⟩ => ⟨S2x6x16384x1, .f32⟩
  | .hbm, ⟨23, _⟩ => ⟨S2x6x16384x16384, .f32⟩
  | .hbm, ⟨24, _⟩ => ⟨S2x6x16384x16384, .f32⟩
  | .hbm, ⟨25, _⟩ => ⟨S2x6x16384x128, .f32⟩
  | .hbm, ⟨26, _⟩ => ⟨S2x16384x6x128, .f32⟩
  | .hbm, ⟨27, _⟩ => ⟨S32768x768, .f32⟩
  | .hbm, ⟨28, _⟩ => ⟨S32768x768, .bf16⟩
  | _, _ => ⟨S2x6x16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]
-- ==== Kernel2.lean ====
abbrev S2x16384x2048 : Shape := ⟨3, ![2, 16384, 2048]⟩
abbrev S2048x8192 : Shape := ⟨2, ![2048, 8192]⟩
abbrev S8192x2048 : Shape := ⟨2, ![8192, 2048]⟩
abbrev S32768x2048 : Shape := ⟨2, ![32768, 2048]⟩
abbrev S512x2048 : Shape := ⟨2, ![512, 2048]⟩
abbrev S2048x2048 : Shape := ⟨2, ![2048, 2048]⟩

abbrev nBuf : Space → Nat
  | .hbm => 10
  | .vmem => 10
  | .smem => 0
  | _ => 0

abbrev bufTy : (tb : Table) → Fin (tcTables nBuf tb) → BufTy
  | .hbm, ⟨0, _⟩ => ⟨S2x16384x2048, .f32⟩
  | .hbm, ⟨1, _⟩ => ⟨S2x16384x2048, .f32⟩
  | .hbm, ⟨2, _⟩ => ⟨S2048x8192, .f32⟩
  | .hbm, ⟨3, _⟩ => ⟨S8192x2048, .f32⟩
  | .hbm, ⟨4, _⟩ => ⟨S32768x2048, .f32⟩
  | .hbm, ⟨5, _⟩ => ⟨S32768x2048, .f32⟩
  | .hbm, ⟨6, _⟩ => ⟨S32768x2048, .bf16⟩
  | .hbm, ⟨7, _⟩ => ⟨S2048x8192, .bf16⟩
  | .hbm, ⟨8, _⟩ => ⟨S8192x2048, .bf16⟩
  | .hbm, ⟨9, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S2048x2048, .bf16⟩
  | .local _ .vmem, ⟨5, _⟩ => ⟨S2048x2048, .bf16⟩
  | .local _ .vmem, ⟨6, _⟩ => ⟨S2048x2048, .bf16⟩
  | .local _ .vmem, ⟨7, _⟩ => ⟨S2048x2048, .bf16⟩
  | .local _ .vmem, ⟨8, _⟩ => ⟨S512x2048, .f32⟩
  | .local _ .vmem, ⟨9, _⟩ => ⟨S512x2048, .f32⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![64, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference2Ideal.lean ====
abbrev S2x16384x2048 : Shape := ⟨3, ![2, 16384, 2048]⟩
abbrev S2048x8192 : Shape := ⟨2, ![2048, 8192]⟩
abbrev S8192x2048 : Shape := ⟨2, ![8192, 2048]⟩
abbrev S2x16384x8192 : Shape := ⟨3, ![2, 16384, 8192]⟩
abbrev S_ : Shape := ⟨0, ![]⟩
abbrev S32768x2048 : Shape := ⟨2, ![32768, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2x16384x2048, .f32⟩
  | .hbm, ⟨2, _⟩ => ⟨S2048x8192, .f32⟩
  | .hbm, ⟨3, _⟩ => ⟨S8192x2048, .f32⟩
  | .hbm, ⟨4, _⟩ => ⟨S2x16384x8192, .f32⟩
  | .hbm, ⟨5, _⟩ => ⟨S_, .f32⟩
  | .hbm, ⟨6, _⟩ => ⟨S2x16384x8192, .f32⟩
  | .hbm, ⟨7, _⟩ => ⟨S2x16384x8192, .f32⟩
  | .hbm, ⟨8, _⟩ => ⟨S2x16384x8192, .f32⟩
  | .hbm, ⟨9, _⟩ => ⟨S2x16384x2048, .f32⟩
  | .hbm, ⟨10, _⟩ => ⟨S2x16384x2048, .f32⟩
  | .hbm, ⟨11, _⟩ => ⟨S32768x2048, .f32⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩

abbrev nD : Nat := 1
abbrev τ : Topo := Topo.v7x

variable {F : FTy → Type} [FloatOps F]
-- ==== Kernel3.lean ====
abbrev S2x16384x2048 : Shape := ⟨3, ![2, 16384, 2048]⟩
abbrev S2x4x16384x128 : Shape := ⟨4, ![2, 4, 16384, 128]⟩
abbrev S2x16384x512 : Shape := ⟨3, ![2, 16384, 512]⟩
abbrev S4x128 : Shape := ⟨2, ![4, 128]⟩
abbrev S2x16384x768 : Shape := ⟨3, ![2, 16384, 768]⟩
abbrev S2048x2048 : Shape := ⟨2, ![2048, 2048]⟩
abbrev S2048 : Shape := ⟨1, ![2048]⟩
abbrev S32768x2048 : Shape := ⟨2, ![32768, 2048]⟩
abbrev S2x16384x4x128 : Shape := ⟨4, ![2, 16384, 4, 128]⟩
abbrev S32768x512 : Shape := ⟨2, ![32768, 512]⟩
abbrev S_ : Shape := ⟨0, ![]⟩
abbrev S32768x768 : Shape := ⟨2, ![32768, 768]⟩
abbrev S1x2048 : Shape := ⟨2, ![1, 2048]⟩
abbrev S512x2048 : Shape := ⟨2, ![512, 2048]⟩
abbrev S512x512 : Shape := ⟨2, ![512, 512]⟩
abbrev S512x768 : Shape := ⟨2, ![512, 768]⟩
abbrev S512x128 : Shape := ⟨2, ![512, 128]⟩
abbrev S1x128 : Shape := ⟨2, ![1, 128]⟩
abbrev S512 : Shape := ⟨1, ![512]⟩
abbrev S512x1 : Shape := ⟨2, ![512, 1]⟩
abbrev S768x2048 : Shape := ⟨2, ![768, 2048]⟩

abbrev nBuf : Space → Nat
  | .hbm => 34
  | .vmem => 19
  | .smem => 0
  | _ => 0

abbrev bufTy : (tb : Table) → Fin (tcTables nBuf tb) → BufTy
  | .hbm, ⟨0, _⟩ => ⟨S2x16384x2048, .f32⟩
  | .hbm, ⟨1, _⟩ => ⟨S2x4x16384x128, .f32⟩
  | .hbm, ⟨2, _⟩ => ⟨S2x4x16384x128, .f32⟩
  | .hbm, ⟨3, _⟩ => ⟨S2x16384x512, .f32⟩
  | .hbm, ⟨4, _⟩ => ⟨S4x128, .f32⟩
  | .hbm, ⟨5, _⟩ => ⟨S2x16384x768, .f32⟩
  | .hbm, ⟨6, _⟩ => ⟨S2x16384x768, .f32⟩
  | .hbm, ⟨7, _⟩ => ⟨S2048x2048, .f32⟩
  | .hbm, ⟨8, _⟩ => ⟨S2048, .f32⟩
  | .hbm, ⟨9, _⟩ => ⟨S32768x2048, .f32⟩
  | .hbm, ⟨10, _⟩ => ⟨S2x16384x4x128, .f32⟩
  | .hbm, ⟨11, _⟩ => ⟨S32768x512, .f32⟩
  | .hbm, ⟨12, _⟩ => ⟨S32768x512, .bf16⟩
  | .hbm, ⟨13, _⟩ => ⟨S2x16384x4x128, .f32⟩
  | .hbm, ⟨14, _⟩ => ⟨S32768x512, .f32⟩
  | .hbm, ⟨15, _⟩ => ⟨S32768x512, .bf16⟩
  | .hbm, ⟨16, _⟩ => ⟨S2x16384x512, .f32⟩
  | .hbm, ⟨17, _⟩ => ⟨S2x16384x512, .f32⟩
  | .hbm, ⟨18, _⟩ => ⟨S_, .f32⟩
  | .hbm, ⟨19, _⟩ => ⟨S2x16384x512, .f32⟩
  | .hbm, ⟨20, _⟩ => ⟨S2x16384x512, .f32⟩
  | .hbm, ⟨21, _⟩ => ⟨S_, .f32⟩
  | .hbm, ⟨22, _⟩ => ⟨S2x16384x512, .f32⟩
  | .hbm, ⟨23, _⟩ => ⟨S2x16384x512, .f32⟩
  | .hbm, ⟨24, _⟩ => ⟨S32768x512, .f32⟩
  | .hbm, ⟨25, _⟩ => ⟨S32768x512, .bf16⟩
  | .hbm, ⟨26, _⟩ => ⟨S32768x768, .f32⟩
  | .hbm, ⟨27, _⟩ => ⟨S32768x768, .bf16⟩
  | .hbm, ⟨28, _⟩ => ⟨S32768x768, .f32⟩
  | .hbm, ⟨29, _⟩ => ⟨S32768x768, .bf16⟩
  | .hbm, ⟨30, _⟩ => ⟨S2048x2048, .bf16⟩
  | .hbm, ⟨31, _⟩ => ⟨S1x2048, .f32⟩
  | .hbm, ⟨32, _⟩ => ⟨S32768x2048, .f32⟩
  | .hbm, ⟨33, _⟩ => ⟨S32768x2048, .bf16⟩
  | .local _ .vmem, ⟨0, _⟩ => ⟨S512x2048, .f32⟩
  | .local _ .vmem, ⟨1, _⟩ => ⟨S512x2048, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S4x128, .f32⟩
  | .local _ .vmem, ⟨9, _⟩ => ⟨S512x768, .bf16⟩
  | .local _ .vmem, ⟨10, _⟩ => ⟨S512x768, .bf16⟩
  | .local _ .vmem, ⟨11, _⟩ => ⟨S512x768, .bf16⟩
  | .local _ .vmem, ⟨12, _⟩ => ⟨S512x768, .bf16⟩
  | .local _ .vmem, ⟨13, _⟩ => ⟨S2048x2048, .bf16⟩
  | .local _ .vmem, ⟨14, _⟩ => ⟨S1x2048, .f32⟩
  | .local _ .vmem, ⟨15, _⟩ => ⟨S512x2048, .f32⟩
  | .local _ .vmem, ⟨16, _⟩ => ⟨S512x2048, .f32⟩
  | .local _ .vmem, ⟨17, _⟩ => ⟨S512x2048, .bf16⟩
  | .local _ .vmem, ⟨18, _⟩ => ⟨S512x2048, .bf16⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21_0 : Ref sig .tc := ⟨.hbm, 32, rfl⟩
abbrev main_v21_1 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference3Ideal.lean ====
abbrev S2x16384x2048 : Shape := ⟨3, ![2, 16384, 2048]⟩
abbrev S2x4x16384x128 : Shape := ⟨4, ![2, 4, 16384, 128]⟩
abbrev S2x16384x512 : Shape := ⟨3, ![2, 16384, 512]⟩
abbrev S4x128 : Shape := ⟨2, ![4, 128]⟩
abbrev S2x16384x768 : Shape := ⟨3, ![2, 16384, 768]⟩
abbrev S2048x2048 : Shape := ⟨2, ![2048, 2048]⟩
abbrev S2048 : Shape := ⟨1, ![2048]⟩
abbrev S4x1x128 : Shape := ⟨3, ![4, 1, 128]⟩
abbrev S_ : Shape := ⟨0, ![]⟩
abbrev S2x4x16384 : Shape := ⟨3, ![2, 4, 16384]⟩
abbrev S2x4x16384x1 : Shape := ⟨4, ![2, 4, 16384, 1]⟩
abbrev S1x4x1x128 : Shape := ⟨4, ![1, 4, 1, 128]⟩
abbrev S2x16384x4x128 : Shape := ⟨4, ![2, 16384, 4, 128]⟩
abbrev S2x16384 : Shape := ⟨2, ![2, 16384]⟩
abbrev S2x16384x1 : Shape := ⟨3, ![2, 16384, 1]⟩
abbrev S1x1x2048 : Shape := ⟨3, ![1, 1, 2048]⟩
abbrev S32768x2048 : Shape := ⟨2, ![32768, 2048]⟩

abbrev nBuf : Space → Nat
  | .hbm => 60
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2x4x16384x128, .f32⟩
  | .hbm, ⟨2, _⟩ => ⟨S2x4x16384x128, .f32⟩
  | .hbm, ⟨3, _⟩ => ⟨S2x16384x512, .f32⟩
  | .hbm, ⟨4, _⟩ => ⟨S4x128, .f32⟩
  | .hbm, ⟨5, _⟩ => ⟨S2x16384x768, .f32⟩
  | .hbm, ⟨6, _⟩ => ⟨S2x16384x768, .f32⟩
  | .hbm, ⟨7, _⟩ => ⟨S2048x2048, .f32⟩
  | .hbm, ⟨8, _⟩ => ⟨S2048, .f32⟩
  | .hbm, ⟨9, _⟩ => ⟨S2x4x16384x128, .f32⟩
  | .hbm, ⟨10, _⟩ => ⟨S4x1x128, .f32⟩
  | .hbm, ⟨11, _⟩ => ⟨S2x4x16384x128, .f32⟩
  | .hbm, ⟨12, _⟩ => ⟨S_, .f32⟩
  | .hbm, ⟨13, _⟩ => ⟨S2x4x16384, .f32⟩
  | .hbm, ⟨14, _⟩ => ⟨S2x4x16384x1, .f32⟩
  | .hbm, ⟨15, _⟩ => ⟨S_, .f32⟩
  | .hbm, ⟨16, _⟩ => ⟨S2x4x16384x1, .f32⟩
  | .hbm, ⟨17, _⟩ => ⟨S2x4x16384x1, .f32⟩
  | .hbm, ⟨18, _⟩ => ⟨S_, .f32⟩
  | .hbm, ⟨19, _⟩ => ⟨S2x4x16384x1, .f32⟩
  | .hbm, ⟨20, _⟩ => ⟨S2x4x16384x1, .f32⟩
  | .hbm, ⟨21, _⟩ => ⟨S2x4x16384x1, .f32⟩
  | .hbm, ⟨22, _⟩ => ⟨S2x4x16384x128, .f32⟩
  | .hbm, ⟨23, _⟩ => ⟨S2x4x16384x128, .f32⟩
  | .hbm, ⟨24, _⟩ => ⟨S1x4x1x128, .f32⟩
  | .hbm, ⟨25, _⟩ => ⟨S2x4x16384x128, .f32⟩
  | .hbm, ⟨26, _⟩ => ⟨S2x4x16384x128, .f32⟩
  | .hbm, ⟨27, _⟩ => ⟨S2x16384x4x128, .f32⟩
  | .hbm, ⟨28, _⟩ => ⟨S2x16384x512, .f32⟩
  | .hbm, ⟨29, _⟩ => ⟨S2x16384x512, .f32⟩
  | .hbm, ⟨30, _⟩ => ⟨S2x16384x512, .f32⟩
  | .hbm, ⟨31, _⟩ => ⟨S_, .f32⟩
  | .hbm, ⟨32, _⟩ => ⟨S2x16384x512, .f32⟩
  | .hbm, ⟨33, _⟩ => ⟨S2x16384x512, .f32⟩
  | .hbm, ⟨34, _⟩ => ⟨S_, .f32⟩
  | .hbm, ⟨35, _⟩ => ⟨S2x16384x512, .f32⟩
  | .hbm, ⟨36, _⟩ => ⟨S2x16384x512, .f32⟩
  | .hbm, ⟨37, _⟩ => ⟨S2x16384x512, .f32⟩
  | .hbm, ⟨38, _⟩ => ⟨S2x16384x2048, .f32⟩
  | .hbm, ⟨39, _⟩ => ⟨S2x16384x2048, .f32⟩
  | .hbm, ⟨40, _⟩ => ⟨S2x16384x2048, .f32⟩
  | .hbm, ⟨41, _⟩ => ⟨S2x16384x2048, .f32⟩
  | .hbm, ⟨42, _⟩ => ⟨S_, .f32⟩
  | .hbm, ⟨43, _⟩ => ⟨S2x16384, .f32⟩
  | .hbm, ⟨44, _⟩ => ⟨S2x16384x1, .f32⟩
  | .hbm, ⟨45, _⟩ => ⟨S_, .f32⟩
  | .hbm, ⟨46, _⟩ => ⟨S2x16384x1, .f32⟩
  | .hbm, ⟨47, _⟩ => ⟨S2x16384x1, .f32⟩
  | .hbm, ⟨48, _⟩ => ⟨S_, .f32⟩
  | .hbm, ⟨49, _⟩ => ⟨S2x16384x1, .f32⟩
  | .hbm, ⟨50, _⟩ => ⟨S2x16384x1, .f32⟩
  | .hbm, ⟨51, _⟩ => ⟨S2x16384x1, .f32⟩
  | .hbm, ⟨52, _⟩ => ⟨S2x16384x2048, .f32⟩
  | .hbm, ⟨53, _⟩ => ⟨S2x16384x2048, .f32⟩
  | .hbm, ⟨54, _⟩ => ⟨S1x1x2048, .f32⟩
  | .hbm, ⟨55, _⟩ => ⟨S2x16384x2048, .f32⟩
  | .hbm, ⟨56, _⟩ => ⟨S2x16384x2048, .f32⟩
  | .hbm, ⟨57, _⟩ => ⟨S32768x2048, .f32⟩
  | .hbm, ⟨58, _⟩ => ⟨S32768x2048, .f32⟩
  | .hbm, ⟨59, _⟩ => ⟨S32768x2048, .bf16⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_4 : Ref sig .tc := ⟨.hbm, 42, rfl⟩
abbrev main_v28 : Ref sig .tc := ⟨.hbm, 43, rfl⟩
abbrev main_v29 : Ref sig .tc := ⟨.hbm, 44, rfl⟩
abbrev main_cst_5 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩

abbrev nD : Nat := 1
abbrev τ : Topo := Topo.v7x

variable {F : FTy → Type} [FloatOps F]
-- ==== Kernel4.lean ====
abbrev S2x2048x8192 : Shape := ⟨3, ![2, 2048, 8192]⟩
abbrev S2048x8192 : Shape := ⟨2, ![2048, 8192]⟩
abbrev S1x256x8192 : Shape := ⟨3, ![1, 256, 8192]⟩
abbrev S256x8192 : Shape := ⟨2, ![256, 8192]⟩

abbrev nBuf : Space → Nat
  | .hbm => 2
  | .vmem => 4
  | .smem => 0
  | _ => 0

abbrev bufTy : (tb : Table) → Fin (tcTables nBuf tb) → BufTy
  | .hbm, ⟨0, _⟩ => ⟨S2x2048x8192, .f32⟩
  | .hbm, ⟨1, _⟩ => ⟨S2048x8192, .bf16⟩
  | .local _ .vmem, ⟨0, _⟩ => ⟨S1x256x8192, .f32⟩
  | .local _ .vmem, ⟨1, _⟩ => ⟨S1x256x8192, .f32⟩
  | .local _ .vmem, ⟨2, _⟩ => ⟨S256x8192, .bf16⟩
  | .local _ .vmem, ⟨3, _⟩ => ⟨S256x8192, .bf16⟩
  | _, _ => ⟨S2x2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x8192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference4Ideal.lean ====
abbrev S2x2048x8192 : Shape := ⟨3, ![2, 2048, 8192]⟩
abbrev S1x2048x8192 : Shape := ⟨3, ![1, 2048, 8192]⟩
abbrev S2048x8192 : Shape := ⟨2, ![2048, 8192]⟩

abbrev nBuf : Space → Nat
  | .hbm => 4
  | .vmem => 0
  | .smem => 0
  | _ => 0

abbrev bufTy : (tb : Table) → Fin (tcTables nBuf tb) → BufTy
  | .hbm, ⟨0, _⟩ => ⟨S2x2048x8192, .f32⟩
  | .hbm, ⟨1, _⟩ => ⟨S1x2048x8192, .f32⟩
  | .hbm, ⟨2, _⟩ => ⟨S2048x8192, .f32⟩
  | .hbm, ⟨3, _⟩ => ⟨S2048x8192, .bf16⟩
  | _, _ => ⟨S2x2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== Kernel5.lean ====
abbrev S2x16384x2048 : Shape := ⟨3, ![2, 16384, 2048]⟩
abbrev S2048 : Shape := ⟨1, ![2048]⟩
abbrev S2048x4432 : Shape := ⟨2, ![2048, 4432]⟩
abbrev S2x4 : Shape := ⟨2, ![2, 4]⟩
abbrev S384 : Shape := ⟨1, ![384]⟩
abbrev S384x1152 : Shape := ⟨2, ![384, 1152]⟩
abbrev S128 : Shape := ⟨1, ![128]⟩
abbrev S128x1536 : Shape := ⟨2, ![128, 1536]⟩
abbrev S192 : Shape := ⟨1, ![192]⟩
abbrev S16384 : Shape := ⟨1, ![16384]⟩
abbrev S32 : Shape := ⟨1, ![32]⟩
abbrev S_ : Shape := ⟨0, ![]⟩
abbrev S16384x1 : Shape := ⟨2, ![16384, 1]⟩
abbrev S1x32 : Shape := ⟨2, ![1, 32]⟩
abbrev S16384x32 : Shape := ⟨2, ![16384, 32]⟩
abbrev S16384x64 : Shape := ⟨2, ![16384, 64]⟩
abbrev S16384x128 : Shape := ⟨2, ![16384, 128]⟩
abbrev S16 : Shape := ⟨1, ![16]⟩
abbrev S1x16 : Shape := ⟨2, ![1, 16]⟩
abbrev S16384x16 : Shape := ⟨2, ![16384, 16]⟩
abbrev S16384x96 : Shape := ⟨2, ![16384, 96]⟩
abbrev S2048x256 : Shape := ⟨2, ![2048, 256]⟩
abbrev S2048x512 : Shape := ⟨2, ![2048, 512]⟩
abbrev S2048x16 : Shape := ⟨2, ![2048, 16]⟩
abbrev S2048x384 : Shape := ⟨2, ![2048, 384]⟩
abbrev S2048x192 : Shape := ⟨2, ![2048, 192]⟩
abbrev S2048x768 : Shape := ⟨2, ![2048, 768]⟩
abbrev S2048x128 : Shape := ⟨2, ![2048, 128]⟩
abbrev S2048x4608 : Shape := ⟨2, ![2048, 4608]⟩
abbrev S384x6x192 : Shape := ⟨3, ![384, 6, 192]⟩
abbrev S384x6x256 : Shape := ⟨3, ![384, 6, 256]⟩
abbrev S384x1536 : Shape := ⟨2, ![384, 1536]⟩
abbrev S1x4 : Shape := ⟨2, ![1, 4]⟩
abbrev S4 : Shape := ⟨1, ![4]⟩
abbrev S1x128 : Shape := ⟨2, ![1, 128]⟩
abbrev S64 : Shape := ⟨1, ![64]⟩
abbrev S8x128 : Shape := ⟨2, ![8, 128]⟩
abbrev S32768x2048 : Shape := ⟨2, ![32768, 2048]⟩
abbrev S1x2048 : Shape := ⟨2, ![1, 2048]⟩
abbrev S1x384 : Shape := ⟨2, ![1, 384]⟩
abbrev S32768x256 : Shape := ⟨2, ![32768, 256]⟩
abbrev S256x32768 : Shape := ⟨2, ![256, 32768]⟩
abbrev S32768x512 : Shape := ⟨2, ![32768, 512]⟩
abbrev S32768x128 : Shape := ⟨2, ![32768, 128]⟩
abbrev S128x32768 : Shape := ⟨2, ![128, 32768]⟩
abbrev S6x64x256x512 : Shape := ⟨4, ![6, 64, 256, 512]⟩
abbrev S6x32768x256 : Shape := ⟨3, ![6, 32768, 256]⟩
abbrev S6x64x144x512 : Shape := ⟨4, ![6, 64, 144, 512]⟩
abbrev S6x128x128x256 : Shape := ⟨4, ![6, 128, 128, 256]⟩
abbrev S32768x768 : Shape := ⟨2, ![32768, 768]⟩
abbrev S6x128x144x256 : Shape := ⟨4, ![6, 128, 144, 256]⟩
abbrev S512x2048 : Shape := ⟨2, ![512, 2048]⟩
abbrev S512x128 : Shape := ⟨2, ![512, 128]⟩
abbrev S512x256 : Shape := ⟨2, ![512, 256]⟩
abbrev S256x512 : Shape := ⟨2, ![256, 512]⟩
abbrev S512x512 : Shape := ⟨2, ![512, 512]⟩
abbrev S128x512 : Shape := ⟨2, ![128, 512]⟩
abbrev S6x1x256x512 : Shape := ⟨4, ![6, 1, 256, 512]⟩
abbrev S6x512x256 : Shape := ⟨3, ![6, 512, 256]⟩
abbrev S6x1x144x512 : Shape := ⟨4, ![6, 1, 144, 512]⟩
abbrev S6x2x128x256 : Shape := ⟨4, ![6, 2, 128, 256]⟩
abbrev S512x768 : Shape := ⟨2, ![512, 768]⟩
abbrev S6x2x144x256 : Shape := ⟨4, ![6, 2, 144, 256]⟩
abbrev S512 : Shape := ⟨1, ![512]⟩
abbrev S512x1 : Shape := ⟨2, ![512, 1]⟩
abbrev S512x384 : Shape := ⟨2, ![512, 384]⟩
abbrev S512x1536 : Shape := ⟨2, ![512, 1536]⟩
abbrev S16x512 : Shape := ⟨2, ![16, 512]⟩
abbrev S16x256 : Shape := ⟨2, ![16, 256]⟩
abbrev S1x1x128x512 : Shape := ⟨4, ![1, 1, 128, 512]⟩
abbrev S1x512x128 : Shape := ⟨3, ![1, 512, 128]⟩
abbrev S1x1x16x512 : Shape := ⟨4, ![1, 1, 16, 512]⟩
abbrev S256x128 : Shape := ⟨2, ![256, 128]⟩
abbrev S128x256 : Shape := ⟨2, ![128, 256]⟩
abbrev S1x1x128x256 : Shape := ⟨4, ![1, 1, 128, 256]⟩
abbrev S1x1x16x256 : Shape := ⟨4, ![1, 1, 16, 256]⟩

abbrev nBuf : Space → Nat
  | .hbm => 148
  | .vmem => 42
  | .smem => 0
  | _ => 0

abbrev hbmTy0_0 (i : Nat) : BufTy := match i % 128 with
  | 0 => ⟨S2x16384x2048, .f32⟩
  | 1 => ⟨S2048, .f32⟩
  | 2 => ⟨S2048x4432, .f32⟩
  | 3 => ⟨S2x4, .f32⟩
  | 4 => ⟨S2x4, .f32⟩
  | 5 => ⟨S384, .f32⟩
  | 6 => ⟨S384x1152, .f32⟩
  | 7 => ⟨S128, .f32⟩
  | 8 => ⟨S128x1536, .f32⟩
  | 9 => ⟨S192, .f32⟩
  | 10 => ⟨S192, .f32⟩
  | 11 => ⟨S128, .f32⟩
  | 12 => ⟨S128, .f32⟩
  | 13 => ⟨S16384, .f32⟩
  | 14 => ⟨S32, .f32⟩
  | 15 => ⟨S_, .f32⟩
  | 16 => ⟨S32, .f32⟩
  | 17 => ⟨S32, .f32⟩
  | 18 => ⟨S_, .f32⟩
  | 19 => ⟨S32, .f32⟩
  | 20 => ⟨S32, .f32⟩
  | 21 => ⟨S32, .f32⟩
  | 22 => ⟨S_, .f32⟩
  | 23 => ⟨S32, .f32⟩
  | 24 => ⟨S32, .f32⟩
  | 25 => ⟨S_, .f32⟩
  | 26 => ⟨S32, .f32⟩
  | 27 => ⟨S32, .f32⟩
  | 28 => ⟨S16384x1, .f32⟩
  | 29 => ⟨S1x32, .f32⟩
  | 30 => ⟨S16384x32, .f32⟩
  | 31 => ⟨S16384x32, .f32⟩
  | 32 => ⟨S16384x32, .f32⟩
  | 33 => ⟨S16384x32, .f32⟩
  | 34 => ⟨S16384x32, .f32⟩
  | 35 => ⟨S_, .f32⟩
  | 36 => ⟨S16384x64, .f32⟩
  | 37 => ⟨S16384x128, .f32⟩
  | 38 => ⟨S16384x32, .f32⟩
  | 39 => ⟨S_, .f32⟩
  | 40 => ⟨S16384x64, .f32⟩
  | 41 => ⟨S16384x128, .f32⟩
  | 42 => ⟨S16384, .f32⟩
  | 43 => ⟨S16, .f32⟩
  | 44 => ⟨S_, .f32⟩
  | 45 => ⟨S16, .f32⟩
  | 46 => ⟨S16, .f32⟩
  | 47 => ⟨S_, .f32⟩
  | 48 => ⟨S16, .f32⟩
  | 49 => ⟨S16, .f32⟩
  | 50 => ⟨S16, .f32⟩
  | 51 => ⟨S_, .f32⟩
  | 52 => ⟨S16, .f32⟩
  | 53 => ⟨S16, .f32⟩
  | 54 => ⟨S_, .f32⟩
  | 55 => ⟨S16, .f32⟩
  | 56 => ⟨S16, .f32⟩
  | 57 => ⟨S16384x1, .f32⟩
  | 58 => ⟨S1x16, .f32⟩
  | 59 => ⟨S16384x16, .f32⟩
  | 60 => ⟨S16384x16, .f32⟩
  | 61 => ⟨S16384x16, .f32⟩
  | 62 => ⟨S16384x16, .f32⟩
  | 63 => ⟨S16384x16, .f32⟩
  | 64 => ⟨S_, .f32⟩
  | 65 => ⟨S16384x96, .f32⟩
  | 66 => ⟨S16384x128, .f32⟩
  | 67 => ⟨S16384x16, .f32⟩
  | 68 => ⟨S_, .f32⟩
  | 69 => ⟨S16384x96, .f32⟩
  | 70 => ⟨S16384x128, .f32⟩
  | 71 => ⟨S2048x256, .f32⟩
  | 72 => ⟨S2048x256, .f32⟩
  | 73 => ⟨S2048x512, .f32⟩
  | 74 => ⟨S2048x512, .f32⟩
  | 75 => ⟨S2048x16, .f32⟩
  | 76 => ⟨S2048x384, .f32⟩
  | 77 => ⟨S2048x192, .f32⟩
  | 78 => ⟨S2048x768, .f32⟩
  | 79 => ⟨S2048x768, .f32⟩
  | 80 => ⟨S2048x768, .f32⟩
  | 81 => ⟨S_, .i32⟩
  | 82 => ⟨S_, .f32⟩
  | 83 => ⟨S2048x128, .f32⟩
  | 84 => ⟨S_, .i32⟩
  | 85 => ⟨S_, .f32⟩
  | 86 => ⟨S2048x256, .f32⟩
  | 87 => ⟨S2048x4608, .f32⟩
  | 88 => ⟨S2048x4608, .bf16⟩
  | 89 => ⟨S384x6x192, .f32⟩
  | 90 => ⟨S_, .i32⟩
  | 91 => ⟨S_, .f32⟩
  | 92 => ⟨S384x6x256, .f32⟩
  | 93 => ⟨S384x1536, .f32⟩
  | 94 => ⟨S384x1536, .bf16⟩
  | 95 => ⟨S128x1536, .bf16⟩
  | 96 => ⟨S1x4, .f32⟩
  | 97 => ⟨S4, .f32⟩
  | 98 => ⟨S1x4, .f32⟩
  | 99 => ⟨S4, .f32⟩
  | 100 => ⟨S1x4, .f32⟩
  | 101 => ⟨S4, .f32⟩
  | 102 => ⟨S1x4, .f32⟩
  | 103 => ⟨S4, .f32⟩
  | 104 => ⟨S16, .f32⟩
  | 105 => ⟨S1x16, .f32⟩
  | 106 => ⟨S_, .i32⟩
  | 107 => ⟨S_, .f32⟩
  | 108 => ⟨S1x128, .f32⟩
  | 109 => ⟨S128, .f32⟩
  | 110 => ⟨S64, .f32⟩
  | 111 => ⟨S_, .i32⟩
  | 112 => ⟨S_, .f32⟩
  | 113 => ⟨S128, .f32⟩
  | 114 => ⟨S128, .f32⟩
  | 115 => ⟨S64, .f32⟩
  | 116 => ⟨S_, .i32⟩
  | 117 => ⟨S_, .f32⟩
  | 118 => ⟨S128, .f32⟩
  | 119 => ⟨S_, .f32⟩
  | 120 => ⟨S128, .f32⟩
  | 121 => ⟨S_, .f32⟩
  | 122 => ⟨S128, .f32⟩
  | 123 => ⟨S1x128, .f32⟩
  | 124 => ⟨S1x128, .f32⟩
  | 125 => ⟨S1x128, .f32⟩
  | 126 => ⟨S1x128, .f32⟩
  | 127 => ⟨S1x128, .f32⟩
  | _ => ⟨S2x16384x2048, .f32⟩

abbrev hbmTy0_1 (i : Nat) : BufTy := match i % 128 with
  | 0 => ⟨S1x128, .f32⟩
  | 1 => ⟨S1x128, .f32⟩
  | 2 => ⟨S1x128, .f32⟩
  | 3 => ⟨S8x128, .f32⟩
  | 4 => ⟨S32768x2048, .f32⟩
  | 5 => ⟨S1x2048, .f32⟩
  | 6 => ⟨S1x384, .f32⟩
  | 7 => ⟨S1x128, .f32⟩
  | 8 => ⟨S32768x256, .bf16⟩
  | 9 => ⟨S256x32768, .bf16⟩
  | 10 => ⟨S32768x512, .bf16⟩
  | 11 => ⟨S32768x512, .bf16⟩
  | 12 => ⟨S32768x128, .f32⟩
  | 13 => ⟨S128x32768, .f32⟩
  | 14 => ⟨S6x64x256x512, .bf16⟩
  | 15 => ⟨S6x32768x256, .bf16⟩
  | 16 => ⟨S6x64x144x512, .bf16⟩
  | 17 => ⟨S6x128x128x256, .bf16⟩
  | 18 => ⟨S32768x768, .bf16⟩
  | 19 => ⟨S6x128x144x256, .bf16⟩
  | _ => ⟨S2x16384x2048, .f32⟩

abbrev hbmTy (i : Nat) : BufTy := match i / 128 with
  | 0 => hbmTy0_0 i
  | 1 => hbmTy0_1 i
  | _ => ⟨S2x16384x2048, .f32⟩

abbrev bufTy : (tb : Table) → Fin (tcTables nBuf tb) → BufTy
  | .hbm, ⟨i, _⟩ => hbmTy i
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x4608, .bf16⟩
  | .local _ .vmem, ⟨4, _⟩ => ⟨S384x1536, .bf16⟩
  | .local _ .vmem, ⟨5, _⟩ => ⟨S128x1536, .bf16⟩
  | .local _ .vmem, ⟨6, _⟩ => ⟨S1x128, .f32⟩
  | .local _ .vmem, ⟨7, _⟩ => ⟨S1x384, .f32⟩
  | .local _ .vmem, ⟨8, _⟩ => ⟨S1x128, .f32⟩
  | .local _ .vmem, ⟨9, _⟩ => ⟨S8x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S512x256, .bf16⟩
  | .local _ .vmem, ⟨19, _⟩ => ⟨S512x256, .bf16⟩
  | .local _ .vmem, ⟨20, _⟩ => ⟨S256x512, .bf16⟩
  | .local _ .vmem, ⟨21, _⟩ => ⟨S256x512, .bf16⟩
  | .local _ .vmem, ⟨22, _⟩ => ⟨S512x512, .bf16⟩
  | .local _ .vmem, ⟨23, _⟩ => ⟨S512x512, .bf16⟩
  | .local _ .vmem, ⟨24, _⟩ => ⟨S512x512, .bf16⟩
  | .local _ .vmem, ⟨25, _⟩ => ⟨S512x512, .bf16⟩
  | .local _ .vmem, ⟨26, _⟩ => ⟨S512x128, .f32⟩
  | .local _ .vmem, ⟨27, _⟩ => ⟨S512x128, .f32⟩
  | .local _ .vmem, ⟨28, _⟩ => ⟨S128x512, .f32⟩
  | .local _ .vmem, ⟨29, _⟩ => ⟨S128x512, .f32⟩
  | .local _ .vmem, ⟨30, _⟩ => ⟨S6x1x256x512, .bf16⟩
  | .local _ .vmem, ⟨31, _⟩ => ⟨S6x1x256x512, .bf16⟩
  | .local _ .vmem, ⟨32, _⟩ => ⟨S6x512x256, .bf16⟩
  | .local _ .vmem, ⟨33, _⟩ => ⟨S6x512x256, .bf16⟩
  | .local _ .vmem, ⟨34, _⟩ => ⟨S6x1x144x512, .bf16⟩
  | .local _ .vmem, ⟨35, _⟩ => ⟨S6x1x144x512, .bf16⟩
  | .local _ .vmem, ⟨36, _⟩ => ⟨S6x2x128x256, .bf16⟩
  | .local _ .vmem, ⟨37, _⟩ => ⟨S6x2x128x256, .bf16⟩
  | .local _ .vmem, ⟨38, _⟩ => ⟨S512x768, .bf16⟩
  | .local _ .vmem, ⟨39, _⟩ => ⟨S512x768, .bf16⟩
  | .local _ .vmem, ⟨40, _⟩ => ⟨S6x2x144x256, .bf16⟩
  | .local _ .vmem, ⟨41, _⟩ => ⟨S6x2x144x256, .bf16⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_cst : Ref sig .tc := ⟨.hbm, 15, rfl⟩
abbrev main_v2 : Ref sig .tc := ⟨.hbm, 16, rfl⟩
abbrev main_v3 : Ref sig .tc := ⟨.hbm, 17, rfl⟩
abbrev main_cst_0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_1 : Ref sig .tc := ⟨.hbm, 22, rfl⟩
abbrev main_v7 : Ref sig .tc := ⟨.hbm, 23, rfl⟩
abbrev main_v8 : Ref sig .tc := ⟨.hbm, 24, rfl⟩
abbrev main_cst_2 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_4 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_5 : Ref sig .tc := ⟨.hbm, 44, rfl⟩
abbrev main_v25 : Ref sig .tc := ⟨.hbm, 45, rfl⟩
abbrev main_v26 : Ref sig .tc := ⟨.hbm, 46, rfl⟩
abbrev main_cst_6 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_7 : Ref sig .tc := ⟨.hbm, 51, rfl⟩
abbrev main_v30 : Ref sig .tc := ⟨.hbm, 52, rfl⟩
abbrev main_v31 : Ref sig .tc := ⟨.hbm, 53, rfl⟩
abbrev main_cst_8 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_9 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_10 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_c : Ref sig .tc := ⟨.hbm, 81, rfl⟩
abbrev main_call0_v0 : Ref sig .tc := ⟨.hbm, 82, rfl⟩
abbrev main_v56 : Ref sig .tc := ⟨.hbm, 83, rfl⟩
abbrev main_c_11 : Ref sig .tc := ⟨.hbm, 84, rfl⟩
abbrev main_call1_v0 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_c_12 : Ref sig .tc := ⟨.hbm, 90, rfl⟩
abbrev main_call2_v0 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_13 : Ref sig .tc := ⟨.hbm, 106, rfl⟩
abbrev main_call3_v0 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_c_14 : Ref sig .tc := ⟨.hbm, 111, rfl⟩
abbrev main_call4_v0 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_c_15 : Ref sig .tc := ⟨.hbm, 116, rfl⟩
abbrev main_call5_v0 : Ref sig .tc := ⟨.hbm, 117, rfl⟩
abbrev main_v81 : Ref sig .tc := ⟨.hbm, 118, rfl⟩
abbrev main_cst_16 : Ref sig .tc := ⟨.hbm, 119, rfl⟩
abbrev main_v82 : Ref sig .tc := ⟨.hbm, 120, rfl⟩
abbrev main_cst_17 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97_0 : Ref sig .tc := ⟨.hbm, 136, rfl⟩
abbrev main_v97_1 : Ref sig .tc := ⟨.hbm, 137, rfl⟩
abbrev main_v97_2 : Ref sig .tc := ⟨.hbm, 138, rfl⟩
abbrev main_v97_3 : Ref sig .tc := ⟨.hbm, 139, rfl⟩
abbrev main_v97_4 : Ref sig .tc := ⟨.hbm, 140, rfl⟩
abbrev main_v97_5 : Ref sig .tc := ⟨.hbm, 141, rfl⟩
abbrev main_v97_6 : Ref sig .tc := ⟨.hbm, 142, rfl⟩
abbrev main_v97_7 : Ref sig .tc := ⟨.hbm, 143, rfl⟩
abbrev main_v97_8 : Ref sig .tc := ⟨.hbm, 144, rfl⟩
abbrev main_v97_9 : Ref sig .tc := ⟨.hbm, 145, rfl⟩
abbrev main_v97_10 : Ref sig .tc := ⟨.hbm, 146, rfl⟩
abbrev main_v97_11 : Ref sig .tc := ⟨.hbm, 147, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg19_1 : Ref sig .tc := ⟨.vmem, 31, rfl⟩
abbrev cc0_stg20_0 : Ref sig .tc := ⟨.vmem, 32, rfl⟩
abbrev cc0_stg20_1 : Ref sig .tc := ⟨.vmem, 33, rfl⟩
abbrev cc0_stg21_0 : Ref sig .tc := ⟨.vmem, 34, rfl⟩
abbrev cc0_stg21_1 : Ref sig .tc := ⟨.vmem, 35, rfl⟩
abbrev cc0_stg22_0 : Ref sig .tc := ⟨.vmem, 36, rfl⟩
abbrev cc0_stg22_1 : Ref sig .tc := ⟨.vmem, 37, rfl⟩
abbrev cc0_stg23_0 : Ref sig .tc := ⟨.vmem, 38, rfl⟩
abbrev cc0_stg23_1 : Ref sig .tc := ⟨.vmem, 39, rfl⟩
abbrev cc0_stg24_0 : Ref sig .tc := ⟨.vmem, 40, rfl⟩
abbrev cc0_stg24_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29
abbrev cc0_sem19_0 : DmaSem sig := 30
abbrev cc0_sem19_1 : DmaSem sig := 31
abbrev cc0_sem20_0 : DmaSem sig := 32
abbrev cc0_sem20_1 : DmaSem sig := 33
abbrev cc0_sem21_0 : DmaSem sig := 34
abbrev cc0_sem21_1 : DmaSem sig := 35
abbrev cc0_sem22_0 : DmaSem sig := 36
abbrev cc0_sem22_1 : DmaSem sig := 37
abbrev cc0_sem23_0 : DmaSem sig := 38
abbrev cc0_sem23_1 : DmaSem sig := 39
abbrev cc0_sem24_0 : DmaSem sig := 40
abbrev cc0_sem24_1 : DmaSem sig := 41

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_10 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_11 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_12 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_19 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_21 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_22 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x4608 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S384x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S128x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S6x1x256x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S6x512x256 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S6x1x144x512 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S6x2x128x256 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S512x768 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S6x2x144x256 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]
-- ==== Reference5Ideal.lean ====
abbrev S2x16384x2048 : Shape := ⟨3, ![2, 16384, 2048]⟩
abbrev S2048 : Shape := ⟨1, ![2048]⟩
abbrev S2048x4432 : Shape := ⟨2, ![2048, 4432]⟩
abbrev S2x4 : Shape := ⟨2, ![2, 4]⟩
abbrev S384 : Shape := ⟨1, ![384]⟩
abbrev S384x1152 : Shape := ⟨2, ![384, 1152]⟩
abbrev S128 : Shape := ⟨1, ![128]⟩
abbrev S128x1536 : Shape := ⟨2, ![128, 1536]⟩
abbrev S192 : Shape := ⟨1, ![192]⟩
abbrev S_ : Shape := ⟨0, ![]⟩
abbrev S2x16384 : Shape := ⟨2, ![2, 16384]⟩
abbrev S2x16384x1 : Shape := ⟨3, ![2, 16384, 1]⟩
abbrev S1x1x2048 : Shape := ⟨3, ![1, 1, 2048]⟩
abbrev S2x16384x4432 : Shape := ⟨3, ![2, 16384, 4432]⟩
abbrev S2x16384x256 : Shape := ⟨3, ![2, 16384, 256]⟩
abbrev S2x16384x512 : Shape := ⟨3, ![2, 16384, 512]⟩
abbrev S32768x256 : Shape := ⟨2, ![32768, 256]⟩
abbrev S256x32768 : Shape := ⟨2, ![256, 32768]⟩
abbrev S32768x512 : Shape := ⟨2, ![32768, 512]⟩

abbrev nBuf : Space → Nat
  | .hbm => 54
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2048, .f32⟩
  | .hbm, ⟨2, _⟩ => ⟨S2048x4432, .f32⟩
  | .hbm, ⟨3, _⟩ => ⟨S2x4, .f32⟩
  | .hbm, ⟨4, _⟩ => ⟨S2x4, .f32⟩
  | .hbm, ⟨5, _⟩ => ⟨S384, .f32⟩
  | .hbm, ⟨6, _⟩ => ⟨S384x1152, .f32⟩
  | .hbm, ⟨7, _⟩ => ⟨S128, .f32⟩
  | .hbm, ⟨8, _⟩ => ⟨S128x1536, .f32⟩
  | .hbm, ⟨9, _⟩ => ⟨S192, .f32⟩
  | .hbm, ⟨10, _⟩ => ⟨S192, .f32⟩
  | .hbm, ⟨11, _⟩ => ⟨S128, .f32⟩
  | .hbm, ⟨12, _⟩ => ⟨S128, .f32⟩
  | .hbm, ⟨13, _⟩ => ⟨S2x16384x2048, .f32⟩
  | .hbm, ⟨14, _⟩ => ⟨S_, .f32⟩
  | .hbm, ⟨15, _⟩ => ⟨S2x16384, .f32⟩
  | .hbm, ⟨16, _⟩ => ⟨S2x16384x1, .f32⟩
  | .hbm, ⟨17, _⟩ => ⟨S_, .f32⟩
  | .hbm, ⟨18, _⟩ => ⟨S2x16384x1, .f32⟩
  | .hbm, ⟨19, _⟩ => ⟨S2x16384x1, .f32⟩
  | .hbm, ⟨20, _⟩ => ⟨S_, .f32⟩
  | .hbm, ⟨21, _⟩ => ⟨S2x16384x1, .f32⟩
  | .hbm, ⟨22, _⟩ => ⟨S2x16384x1, .f32⟩
  | .hbm, ⟨23, _⟩ => ⟨S2x16384x1, .f32⟩
  | .hbm, ⟨24, _⟩ => ⟨S2x16384x2048, .f32⟩
  | .hbm, ⟨25, _⟩ => ⟨S2x16384x2048, .f32⟩
  | .hbm, ⟨26, _⟩ => ⟨S1x1x2048, .f32⟩
  | .hbm, ⟨27, _⟩ => ⟨S2x16384x2048, .f32⟩
  | .hbm, ⟨28, _⟩ => ⟨S2x16384x2048, .f32⟩
  | .hbm, ⟨29, _⟩ => ⟨S2x16384x4432, .f32⟩
  | .hbm, ⟨30, _⟩ => ⟨S2x16384x256, .f32⟩
  | .hbm, ⟨31, _⟩ => ⟨S2x16384x256, .f32⟩
  | .hbm, ⟨32, _⟩ => ⟨S2x16384x512, .f32⟩
  | .hbm, ⟨33, _⟩ => ⟨S2x16384x512, .f32⟩
  | .hbm, ⟨34, _⟩ => ⟨S_, .f32⟩
  | .hbm, ⟨35, _⟩ => ⟨S2x16384x256, .f32⟩
  | .hbm, ⟨36, _⟩ => ⟨S2x16384x256, .f32⟩
  | .hbm, ⟨37, _⟩ => ⟨S32768x256, .f32⟩
  | .hbm, ⟨38, _⟩ => ⟨S32768x256, .bf16⟩
  | .hbm, ⟨39, _⟩ => ⟨S32768x256, .f32⟩
  | .hbm, ⟨40, _⟩ => ⟨S256x32768, .f32⟩
  | .hbm, ⟨41, _⟩ => ⟨S256x32768, .bf16⟩
  | .hbm, ⟨42, _⟩ => ⟨S32768x512, .f32⟩
  | .hbm, ⟨43, _⟩ => ⟨S32768x512, .bf16⟩
  | .hbm, ⟨44, _⟩ => ⟨S2x16384x512, .f32⟩
  | .hbm, ⟨45, _⟩ => ⟨S2x16384x512, .f32⟩
  | .hbm, ⟨46, _⟩ => ⟨S_, .f32⟩
  | .hbm, ⟨47, _⟩ => ⟨S2x16384x512, .f32⟩
  | .hbm, ⟨48, _⟩ => ⟨S2x16384x512, .f32⟩
  | .hbm, ⟨49, _⟩ => ⟨S_, .f32⟩
  | .hbm, ⟨50, _⟩ => ⟨S2x16384x512, .f32⟩
  | .hbm, ⟨51, _⟩ => ⟨S2x16384x512, .f32⟩
  | .hbm, ⟨52, _⟩ => ⟨S32768x512, .f32⟩
  | .hbm, ⟨53, _⟩ => ⟨S32768x512, .bf16⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_v4 : Ref sig .tc := ⟨.hbm, 19, rfl⟩
abbrev main_cst_1 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_3 : Ref sig .tc := ⟨.hbm, 46, rfl⟩
abbrev main_v29 : Ref sig .tc := ⟨.hbm, 47, rfl⟩
abbrev main_v30 : Ref sig .tc := ⟨.hbm, 48, rfl⟩
abbrev main_cst_4 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩

abbrev nD : Nat := 1
abbrev τ : Topo := Topo.v7x

variable {F : FTy → Type} [FloatOps F]
-- ==== Proof.AttnBody.lean ====
module

public import proofs.«01_k».proof.Proof.Gen.KernelIdeal.Skeleton
public import Idealize.ShloMosaic.Lib.Exec
public import Idealize.ShloMosaic.Lib.Tactic
public import Idealize.ShloMosaic.Lib.Pipeline.Kit
public import Idealize.ShloMosaic.Lib.Pipeline.ReadBack

@[expose] public section

set_option maxRecDepth 8192

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

/-- The scores of one tile of keys (rows) against one tile of queries (columns). -/
def score (q : FVec F S256x512 .bf16) (kb : Vec F S1x512x256 .bf16) : FVec F S512x512 .f32 :=
  matmul dot_S512x256_S256x512_S512x512_1_0_0_1_n_n none (shapeCast S512x256 kb shapeCasts_S1x512x256_S512x256) q
    (constant S512x512 .f32 0x00000000#32)

/-- The greatest score of each column. -/
def colMax (s : FVec F S512x512 .f32) : FVec F S1x512 .f32 :=
  shapeCast S1x512 (multiReduction .maximumf [0] S512 s 0xFF800000#32 reduces_S512x512_S512 (.inl rfl) rfl) shapeCasts_S512_S1x512

/-- The accumulator after a tile: the old one rescaled from the running maximum `m` to the new one, plus the
    tile's values weighted by the exponentials of its scores `s`. -/
def accNext (m mt : FVec F S1x512 .f32) (s : FVec F S512x512 .f32) (vb : Vec F S1x1x144x512 .bf16)
    (a : FVec F S144x512 .f32) : FVec F S144x512 .f32 :=
  addf (mulf (broadcastTo S144x512 (exp2 (subf m (maximumf m mt))) broadcasts_S1x512_S144x512) a)
    (matmul dot_S144x512_S512x512_S144x512_1_0_0_1_n_n none (shapeCast S144x512 vb shapeCasts_S1x1x144x512_S144x512)
      (truncf .bf16 (exp2 (subf s (broadcastTo S512x512 (maximumf m mt) broadcasts_S1x512_S512x512))) bitsLt_bf16_f32)
      (constant S144x512 .f32 0x00000000#32))

/-- One step of the loop: the next tile's scores stored and their maxima taken, this tile's scores consumed. -/
def step (arg4 : Memref sig .tc .vmem S1x16384x256 .bf16) (arg5 : Memref sig .tc .vmem S1x32x144x512 .bf16)
    (arg7 : Memref sig .tc .vmem S2x2x512x512 .f32) (arg8 : Memref sig .tc .vmem S2x144x512 .f32)
    (q : FVec F S256x512 .bf16) (ow or : Fin 4 → ℕ) (oa : Fin 3 → ℕ)
    (hw : ∀ a, ow a + S1x1x512x512.size a ≤ S2x2x512x512.size a) (hr : ∀ a, or a + S1x1x512x512.size a ≤ S2x2x512x512.size a)
    (ha : ∀ a, oa a + S1x144x512.size a ≤ S2x144x512.size a) (o1 : Fin 3 → ℕ) (o2 : Fin 4 → ℕ)
    (h1 : ∀ a, o1 a + S1x512x256.size a ≤ S1x16384x256.size a) (h2 : ∀ a, o2 a + S1x1x144x512.size a ≤ S1x32x144x512.size a)
    (acc : FVec F S1x512 .f32 × FVec F S1x512 .f32) : Prog (TpuEff nD τ sig (Elt F) Λ₀ .tc) (FVec F S1x512 .f32 × FVec F S1x512 .f32) := do
  let kb : Vec F S1x512x256 .bf16 ← Prog.lift (.load arg4 (Rect.unit (s := S1x16384x256) o1 S1x512x256.size h1).toLoadRect (View.loadsAt_vmem h_S1x512x256))
  let _ : Vec F S1x1x512x512 .f32 ← Prog.lift (.load arg7 (Rect.unit (s := S2x2x512x512) ow S1x1x512x512.size hw).toLoadRect (View.loadsAt_vmem h_S1x1x512x512))
  Prog.lift (.store arg7 (Rect.unit (s := S2x2x512x512) ow S1x1x512x512.size hw) (shapeCast S1x1x512x512 (score q kb) shapeCasts_S512x512_S1x1x512x512) Finset.univ (View.stores_vmem_bits_univ h_S1x1x512x512 rfl) (.inl rfl))
  let s : Vec F S1x1x512x512 .f32 ← Prog.lift (.load arg7 (Rect.unit (s := S2x2x512x512) or S1x1x512x512.size hr).toLoadRect (View.loadsAt_vmem h_S1x1x512x512))
  let a : Vec F S1x144x512 .f32 ← Prog.lift (.load arg8 (Rect.unit (s := S2x144x512) oa S1x144x512.size ha).toLoadRect (View.loadsAt_vmem h_S1x144x512))
  let vb : Vec F S1x1x144x512 .bf16 ← Prog.lift (.load arg5 (Rect.unit (s := S1x32x144x512) o2 S1x1x144x512.size h2).toLoadRect (View.loadsAt_vmem h_S1x1x144x512))
  let _ : Vec F S1x144x512 .f32 ← Prog.lift (.load arg8 (Rect.unit (s := S2x144x512) oa S1x144x512.size ha).toLoadRect (View.loadsAt_vmem h_S1x144x512))
  Prog.lift (.store arg8 (Rect.unit (s := S2x144x512) oa S1x144x512.size ha)
    (shapeCast S1x144x512 (accNext acc.1 acc.2 (shapeCast S512x512 s shapeCasts_S1x1x512x512_S512x512) vb (shapeCast S144x512 a shapeCasts_S1x144x512_S144x512)) shapeCasts_S144x512_S1x144x512)
    Finset.univ (View.stores_vmem_bits_univ h_S1x144x512 rfl) (.inl rfl))
  pure (maximumf acc.1 acc.2, colMax (score q kb))

/-- Two score slots of the scratch: which of the two queries' tiles, and which of the two in turn. -/
abbrev slotOff (i j : Fin 2) : Fin 4 → ℕ := ![i.val, j.val, 0, 0]

theorem slotOff_inb (i j : Fin 2) (a : Fin 4) : slotOff i j a + S1x1x512x512.size a ≤ S2x2x512x512.size a := by
  fin_cases i <;> fin_cases j <;> fin_cases a <;> decide

abbrev accOff (i : Fin 2) : Fin 3 → ℕ := ![i.val, 0, 0]

theorem accOff_inb (i : Fin 2) (a : Fin 3) : accOff i a + S1x144x512.size a ≤ S2x144x512.size a := by
  fin_cases i <;> fin_cases a <;> decide

variable (arg4 : Memref sig .tc .vmem S1x16384x256 .bf16) (arg5 : Memref sig .tc .vmem S1x32x144x512 .bf16)
  (arg7 : Memref sig .tc .vmem S2x2x512x512 .f32) (arg8 : Memref sig .tc .vmem S2x144x512 .f32)

/-- Two steps in turn: the scores of the odd slot written and those of the even one read, then the other way. -/
def pair (q : FVec F S256x512 .bf16) (i : Fin 2) (o1 : Fin 16 → Fin 3 → ℕ) (o2 : Fin 16 → Fin 4 → ℕ)
    (h1 : ∀ u a, o1 u a + S1x512x256.size a ≤ S1x16384x256.size a) (h2 : ∀ u a, o2 u a + S1x1x144x512.size a ≤ S1x32x144x512.size a)
    (u v : Fin 16) (acc : FVec F S1x512 .f32 × FVec F S1x512 .f32) :
    Prog (TpuEff nD τ sig (Elt F) Λ₀ .tc) (FVec F S1x512 .f32 × FVec F S1x512 .f32) := do
  let acc ← step arg4 arg5 arg7 arg8 q (slotOff i 1) (slotOff i 0) (accOff i) (slotOff_inb i 1) (slotOff_inb i 0) (accOff_inb i) (o1 u) (o2 u) (h1 u) (h2 u) acc
  step arg4 arg5 arg7 arg8 q (slotOff i 0) (slotOff i 1) (accOff i) (slotOff_inb i 0) (slotOff_inb i 1) (accOff_inb i) (o1 v) (o2 v) (h1 v) (h2 v) acc

/-- One trip: eight pairs of steps. -/
def trip (q : FVec F S256x512 .bf16) (i : Fin 2) (o1 : Fin 16 → Fin 3 → ℕ) (o2 : Fin 16 → Fin 4 → ℕ)
    (h1 : ∀ u a, o1 u a + S1x512x256.size a ≤ S1x16384x256.size a) (h2 : ∀ u a, o2 u a + S1x1x144x512.size a ≤ S1x32x144x512.size a)
    (acc : FVec F S1x512 .f32 × FVec F S1x512 .f32) :
    Prog (TpuEff nD τ sig (Elt F) Λ₀ .tc) (FVec F S1x512 .f32 × FVec F S1x512 .f32) := do
  let acc ← pair arg4 arg5 arg7 arg8 q i o1 o2 h1 h2 0 1 acc
  let acc ← pair arg4 arg5 arg7 arg8 q i o1 o2 h1 h2 2 3 acc
  let acc ← pair arg4 arg5 arg7 arg8 q i o1 o2 h1 h2 4 5 acc
  let acc ← pair arg4 arg5 arg7 arg8 q i o1 o2 h1 h2 6 7 acc
  let acc ← pair arg4 arg5 arg7 arg8 q i o1 o2 h1 h2 8 9 acc
  let acc ← pair arg4 arg5 arg7 arg8 q i o1 o2 h1 h2 10 11 acc
  let acc ← pair arg4 arg5 arg7 arg8 q i o1 o2 h1 h2 12 13 acc
  pair arg4 arg5 arg7 arg8 q i o1 o2 h1 h2 14 15 acc

theorem op_congr {E : Type → Type 1} {α β : Type} (e : E β) {f g : β → Prog E α} (h : ∀ x, f x = g x) : Prog.op e f = Prog.op e g := congrArg (Prog.op e) (funext h)

theorem body0_eq (i : grid0.Coords) (arg3 : Memref sig .tc .vmem S1x2x256x512 .bf16) (harg3 : arg3.IsWhole) (harg4 : arg4.IsWhole) (harg5 : arg5.IsWhole) (arg6 : Memref sig .tc .vmem S1024x128 .bf16) (harg6 : arg6.IsWhole) (harg7 : arg7.IsWhole) (harg8 : arg8.IsWhole) (v0 : Vec F S1x1x256x512 .bf16) (k : Fin k0_t1_loop.trips) (acc : FVec F S1x512 .f32 × FVec F S1x512 .f32) :
    k0_t1_body (F := F) i arg3 harg3 arg4 harg4 arg5 harg5 arg6 harg6 arg7 harg7 arg8 harg8 v0 k acc
      = trip arg4 arg5 arg7 arg8 (shapeCast S256x512 v0 shapeCasts_S1x1x256x512_S256x512) 0 (fun u => k0_off1 k (BitVec.ofNat 32 u.val)) (fun u => k0_off2 k (BitVec.ofNat 32 u.val)) (k0_off1_inb k) (k0_off2_inb k) acc := by
  obtain ⟨m, mt⟩ := acc
  simp only [k0_t1_body, k0_part1, k0_part2, k0_part3, k0_part4, k0_part5, k0_part6, k0_part7, k0_part8, k0_part9, k0_part10, k0_part11, k0_part12, k0_part13, k0_part14, k0_part15, k0_part16, k0_part17, trip, pair, step, Prog.bind_lift, Prog.bind_op, Prog.bind_ret, Prog.pure_eq_ret]
  repeat refine op_congr _ fun _ => ?_
  rfl

theorem body1_eq (i : grid0.Coords) (arg3 : Memref sig .tc .vmem S1x2x256x512 .bf16) (harg3 : arg3.IsWhole) (harg4 : arg4.IsWhole) (harg5 : arg5.IsWhole) (arg6 : Memref sig .tc .vmem S1024x128 .bf16) (harg6 : arg6.IsWhole) (harg7 : arg7.IsWhole) (harg8 : arg8.IsWhole) (v28 : Vec F S1x1x256x512 .bf16) (k : Fin k0_t2_loop.trips) (acc : FVec F S1x512 .f32 × FVec F S1x512 .f32) :
    k0_t2_body (F := F) i arg3 harg3 arg4 harg4 arg5 harg5 arg6 harg6 arg7 harg7 arg8 harg8 v28 k acc
      = trip arg4 arg5 arg7 arg8 (shapeCast S256x512 v28 shapeCasts_S1x1x256x512_S256x512) 1 (fun u => k0_off3 k (BitVec.ofNat 32 u.val)) (fun u => k0_off4 k (BitVec.ofNat 32 u.val)) (k0_off3_inb k) (k0_off4_inb k) acc := by
  obtain ⟨m, mt⟩ := acc
  simp only [k0_t2_body, k0_part18, k0_part19, k0_part20, k0_part21, k0_part22, k0_part23, k0_part24, k0_part25, k0_part26, k0_part27, k0_part28, k0_part29, k0_part30, k0_part31, k0_part32, k0_part33, k0_part34, trip, pair, step, Prog.bind_lift, Prog.bind_op, Prog.bind_ret, Prog.pure_eq_ret]
  repeat refine op_congr _ fun _ => ?_
  rfl

/-! ## The online recursion, over any sequence of key tiles `K` and value tiles `V` -/

section Spec

variable (q : FVec F S256x512 .bf16) (K : ℕ → Vec F S1x512x256 .bf16) (V : ℕ → Vec F S1x1x144x512 .bf16)

/-- The running maximum of each query (column) before tile `t`. -/
def runMax : ℕ → FVec F S1x512 .f32
  | 0 => broadcast S1x512 (Scalar.ofBits .f32 0xF149F2CA#32)
  | t + 1 => maximumf (runMax t) (colMax (score q (K t)))

/-- The accumulator before tile `t`: the weighted values over their weights' sum in the last rows. -/
def runAcc : ℕ → FVec F S144x512 .f32
  | 0 => broadcast S144x512 (Scalar.ofBits .f32 0x00000000#32)
  | t + 1 => accNext (runMax q K t) (colMax (score q (K t))) (score q (K t)) (V t) (runAcc t)

/-- The carried pair before tile `t`. -/
def carry (t : ℕ) : FVec F S1x512 .f32 × FVec F S1x512 .f32 := (runMax q K t, colMax (score q (K t)))

end Spec

/-- The rectangle of a score slot, and of an accumulator. -/
abbrev slotRect (i j : Fin 2) : Rect S2x2x512x512 := Rect.unit (slotOff i j) S1x1x512x512.size (slotOff_inb i j)
abbrev accRect (i : Fin 2) : Rect S2x144x512 := Rect.unit (accOff i) S1x144x512.size (accOff_inb i)

variable (q : FVec F S256x512 .bf16) (K : ℕ → Vec F S1x512x256 .bf16) (V : ℕ → Vec F S1x1x144x512 .bf16)

/-- What is held before tile `t` of queries' tile `i`, whose scores lie in slot `j`. -/
abbrev Inv (c : Dev nD) (X4 : BufTy.Contents (Elt F) arg4.view.ty) (X5 : BufTy.Contents (Elt F) arg5.view.ty)
    (i j : Fin 2) (t : ℕ) (acc : FVec F S1x512 .f32 × FVec F S1x512 .f32) : sProp 𝕄 :=
  iprop((arg4.view.loc (c : Thread nD τ) ↦[arg4.view.set]{fullShare} X4) ∗ (arg5.view.loc (c : Thread nD τ) ↦[arg5.view.set]{fullShare} X5)
    ∗ (∃ f7, (arg7.view.loc (c : Thread nD τ) ↦[arg7.view.set]{fullShare} f7)
        ∗ ⌜arg7.view.readAt (Elt F) (slotRect i j).toLoadRect f7 = shapeCast S1x1x512x512 (score q (K t)) shapeCasts_S512x512_S1x1x512x512⌝)
    ∗ (∃ f8, (arg8.view.loc (c : Thread nD τ) ↦[arg8.view.set]{fullShare} f8)
        ∗ ⌜arg8.view.readAt (Elt F) (accRect i).toLoadRect f8 = shapeCast S1x144x512 (runAcc q K V t) shapeCasts_S144x512_S1x144x512⌝)
    ∗ ⌜acc = carry q K t⌝)

omit [FloatOps F] in
theorem readAt_writes_self {s : Shape} {e : EltTy} {sp : Space} (v : View sig .tc sp s e) (f : v.ty.Contents (Elt F)) (r : Rect s)
    (w : r.shape.Idx → Elt F e) (L : List (View.Piece (Elt F) s e)) :
    v.readAt (Elt F) r.toLoadRect (v.writes (Elt F) f (⟨r, w⟩ :: L)) = w :=
  funext fun x => View.read_writes_cons_emb v f r w L x

theorem slot_disj (i : Fin 2) {j j' : Fin 2} (h : j ≠ j') : LoadRect.disj (slotRect i j) (slotRect i j').toLoadRect = true := by
  revert h; revert i j j'; decide

theorem step_inv (ow or : Fin 4 → ℕ) (oa : Fin 3 → ℕ)
    (hw : ∀ a, ow a + S1x1x512x512.size a ≤ S2x2x512x512.size a) (hr : ∀ a, or a + S1x1x512x512.size a ≤ S2x2x512x512.size a)
    (ha : ∀ a, oa a + S1x144x512.size a ≤ S2x144x512.size a) (o1 : Fin 3 → ℕ) (o2 : Fin 4 → ℕ)
    (h1 : ∀ a, o1 a + S1x512x256.size a ≤ S1x16384x256.size a) (h2 : ∀ a, o2 a + S1x1x144x512.size a ≤ S1x32x144x512.size a)
    (acc : FVec F S1x512 .f32 × FVec F S1x512 .f32)
    (𝒱 : Variants) (c : Dev nD) (bd : Option 𝒱.V) (E : Set ℕ) (X4 : BufTy.Contents (Elt F) arg4.view.ty) (X5 : BufTy.Contents (Elt F) arg5.view.ty)
    (i : Fin 2) {j j' : Fin 2} (hj : j' ≠ j) (t : ℕ) (hsw : ow = slotOff i j') (hsr : or = slotOff i j) (hoa : oa = accOff i)
    (hK : arg4.view.readAt (Elt F) (Rect.unit (s := S1x16384x256) o1 S1x512x256.size h1).toLoadRect X4 = K (t + 1))
    (hV : arg5.view.readAt (Elt F) (Rect.unit (s := S1x32x144x512) o2 S1x1x144x512.size h2).toLoadRect X5 = V t) :
    Inv (F := F) arg4 arg5 arg7 arg8 q K V c X4 X5 i j t acc
      ⊢ wp frame (wpE (defs₀ (F := F)) 𝒱 (c : Thread nD τ) bd) E
          (step arg4 arg5 arg7 arg8 q ow or oa hw hr ha o1 o2 h1 h2 acc)
          (Inv (F := F) arg4 arg5 arg7 arg8 q K V c X4 X5 i j' (t + 1)) := by
  unfold step
  iintro ⟨H4, H5, ⟨%f7, H7, %h7⟩, ⟨%f8, H8, %h8⟩, %hacc⟩
  sl_exec
  sl_step
  isplitl [H4]; · iexact H4
  isplitl [H5]; · iexact H5
  isplitl [H7]
  · iexists _
    isplitl [H7]; · iexact H7
    ipureintro
    subst hsw
    exact readAt_writes_self _ _ _ _ _
  isplitl [H8]
  · iexists _
    isplitl [H8]; · iexact H8
    ipureintro
    subst hoa hsr hsw hacc
    refine (readAt_writes_self _ _ _ _ _).trans ?_
    have e := View.readAt_writes_of_forall_not_mem arg7.view f7 [⟨slotRect i j', shapeCast S1x1x512x512 (score q (K (t + 1))) shapeCasts_S512x512_S1x1x512x512⟩] (slotRect i j).toLoadRect
      (LoadRect.forall_not_mem_of_disjAll _ _ (by simp [LoadRect.disjAll, slot_disj i hj]))
    refine congrArg (fun z => shapeCast S1x144x512 z shapeCasts_S144x512_S1x144x512) ?_
    rw [h8, shapeCast_shapeCast]
    refine (congrArg (fun s => accNext _ _ (shapeCast S512x512 s shapeCasts_S1x1x512x512_S512x512) _ _) (e.trans h7)).trans ?_
    rw [shapeCast_shapeCast]
    simp only [carry, runAcc]
  ipureintro
  subst hacc
  simp only [carry, runMax]

theorem pair_inv (i : Fin 2) (o1 : Fin 16 → Fin 3 → ℕ) (o2 : Fin 16 → Fin 4 → ℕ)
    (h1 : ∀ u a, o1 u a + S1x512x256.size a ≤ S1x16384x256.size a) (h2 : ∀ u a, o2 u a + S1x1x144x512.size a ≤ S1x32x144x512.size a)
    (u v : Fin 16) (acc : FVec F S1x512 .f32 × FVec F S1x512 .f32)
    (𝒱 : Variants) (c : Dev nD) (bd : Option 𝒱.V) (E : Set ℕ) (X4 : BufTy.Contents (Elt F) arg4.view.ty) (X5 : BufTy.Contents (Elt F) arg5.view.ty)
    (t₀ t : ℕ) (hu : t = t₀ + u.val) (hv : v.val = u.val + 1)
    (hK : ∀ u : Fin 16, arg4.view.readAt (Elt F) (Rect.unit (s := S1x16384x256) (o1 u) S1x512x256.size (h1 u)).toLoadRect X4 = K (t₀ + u.val + 1))
    (hV : ∀ u : Fin 16, arg5.view.readAt (Elt F) (Rect.unit (s := S1x32x144x512) (o2 u) S1x1x144x512.size (h2 u)).toLoadRect X5 = V (t₀ + u.val)) :
    Inv (F := F) arg4 arg5 arg7 arg8 q K V c X4 X5 i 0 t acc
      ⊢ wp frame (wpE (defs₀ (F := F)) 𝒱 (c : Thread nD τ) bd) E (pair arg4 arg5 arg7 arg8 q i o1 o2 h1 h2 u v acc)
          (Inv (F := F) arg4 arg5 arg7 arg8 q K V c X4 X5 i 0 (t + 2)) := by
  subst hu
  unfold pair
  rw [wp_bind]
  refine (step_inv arg4 arg5 arg7 arg8 q K V _ _ _ _ _ _ (o1 u) (o2 u) (h1 u) (h2 u) acc 𝒱 c bd E X4 X5 i (by decide) (t₀ + u.val) rfl rfl rfl (hK u) (hV u)).trans (wp_mono _ _ _ fun acc' => ?_)
  exact step_inv arg4 arg5 arg7 arg8 q K V _ _ _ _ _ _ (o1 v) (o2 v) (h1 v) (h2 v) acc' 𝒱 c bd E X4 X5 i (by decide) (t₀ + u.val + 1) rfl rfl rfl
    ((hK v).trans (by rw [hv]; rfl)) ((hV v).trans (by rw [hv, Nat.add_assoc]))

theorem trip_inv (i : Fin 2) (o1 : Fin 16 → Fin 3 → ℕ) (o2 : Fin 16 → Fin 4 → ℕ)
    (h1 : ∀ u a, o1 u a + S1x512x256.size a ≤ S1x16384x256.size a) (h2 : ∀ u a, o2 u a + S1x1x144x512.size a ≤ S1x32x144x512.size a)
    (acc : FVec F S1x512 .f32 × FVec F S1x512 .f32)
    (𝒱 : Variants) (c : Dev nD) (bd : Option 𝒱.V) (E : Set ℕ) (X4 : BufTy.Contents (Elt F) arg4.view.ty) (X5 : BufTy.Contents (Elt F) arg5.view.ty)
    (t : ℕ)
    (hK : ∀ u : Fin 16, arg4.view.readAt (Elt F) (Rect.unit (s := S1x16384x256) (o1 u) S1x512x256.size (h1 u)).toLoadRect X4 = K (t + u.val + 1))
    (hV : ∀ u : Fin 16, arg5.view.readAt (Elt F) (Rect.unit (s := S1x32x144x512) (o2 u) S1x1x144x512.size (h2 u)).toLoadRect X5 = V (t + u.val)) :
    Inv (F := F) arg4 arg5 arg7 arg8 q K V c X4 X5 i 0 t acc
      ⊢ wp frame (wpE (defs₀ (F := F)) 𝒱 (c : Thread nD τ) bd) E (trip arg4 arg5 arg7 arg8 q i o1 o2 h1 h2 acc)
          (Inv (F := F) arg4 arg5 arg7 arg8 q K V c X4 X5 i 0 (t + 16)) := by
  have P := fun (u v : Fin 16) (acc : FVec F S1x512 .f32 × FVec F S1x512 .f32) (t' : ℕ) (hu : t' = t + u.val) (hv : v.val = u.val + 1) =>
    pair_inv arg4 arg5 arg7 arg8 q K V i o1 o2 h1 h2 u v acc 𝒱 c bd E X4 X5 t t' hu hv hK hV
  unfold trip
  simp only [wp_bind]
  refine (P 0 1 acc t rfl rfl).trans (wp_mono _ _ _ fun a => ?_)
  refine (P 2 3 a (t + 2) rfl rfl).trans (wp_mono _ _ _ fun a => ?_)
  refine (P 4 5 a (t + 4) rfl rfl).trans (wp_mono _ _ _ fun a => ?_)
  refine (P 6 7 a (t + 6) rfl rfl).trans (wp_mono _ _ _ fun a => ?_)
  refine (P 8 9 a (t + 8) rfl rfl).trans (wp_mono _ _ _ fun a => ?_)
  refine (P 10 11 a (t + 10) rfl rfl).trans (wp_mono _ _ _ fun a => ?_)
  refine (P 12 13 a (t + 12) rfl rfl).trans (wp_mono _ _ _ fun a => ?_)
  exact P 14 15 a (t + 14) rfl rfl

end Cert.KernelIdeal.Attn

end
-- ==== Proof.AttnRun.lean ====
module

public import proofs.«01_k».proof.Proof.AttnBody
public import proofs.«01_k».proof.Proof.Gen.KernelIdeal.Frame

@[expose] public section

set_option maxRecDepth 8192
set_option warn.classDefReducibility false

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## The tiles a point reads -/

theorem ktile_inb (t : ℕ) (a : Fin 3) : (![0, 512 * min t 31, 0] : Fin 3 → ℕ) a + S1x512x256.size a ≤ S1x16384x256.size a := by
  have : min t 31 ≤ 31 := min_le_right _ _
  fin_cases a <;> simp [S1x512x256, S1x16384x256] <;> omega

theorem vtile_inb (t : ℕ) (a : Fin 4) : (![0, min t 31, 0, 0] : Fin 4 → ℕ) a + S1x1x144x512.size a ≤ S1x32x144x512.size a := by
  have : min t 31 ≤ 31 := min_le_right _ _
  fin_cases a <;> simp [S1x1x144x512, S1x32x144x512] <;> omega

theorem qtile_inb (i : Fin 2) (a : Fin 4) : (![0, i.val, 0, 0] : Fin 4 → ℕ) a + S1x1x256x512.size a ≤ S1x2x256x512.size a := by
  fin_cases i <;> fin_cases a <;> decide

/-- Tile `t` of the keys, the last one again past the end. -/
def ktile (x4 : Vec F S1x16384x256 .bf16) (t : ℕ) : Vec F S1x512x256 .bf16 :=
  View.ld x4 (Rect.unit (s := S1x16384x256) ![0, 512 * min t 31, 0] S1x512x256.size (ktile_inb t))

/-- Tile `t` of the values. -/
def vtile (x5 : Vec F S1x32x144x512 .bf16) (t : ℕ) : Vec F S1x1x144x512 .bf16 :=
  View.ld x5 (Rect.unit (s := S1x32x144x512) ![0, min t 31, 0, 0] S1x1x144x512.size (vtile_inb t))

/-- Half `i` of the point's queries. -/
def qtile (x3 : Vec F S1x2x256x512 .bf16) (i : Fin 2) : FVec F S256x512 .bf16 :=
  shapeCast S256x512 (View.ld x3 (Rect.unit (s := S1x2x256x512) ![0, i.val, 0, 0] S1x1x256x512.size (qtile_inb i)))
    shapeCasts_S1x1x256x512_S256x512

theorem k0_off1_eq (k : Fin k0_t1_loop.trips) (u : Fin 16) :
    k0_off1 k (BitVec.ofNat 32 u.val) = ![0, 512 * min (16 * k.val + u.val + 1) 31, 0] := by
  revert k u; decide +kernel

theorem k0_off2_eq (k : Fin k0_t1_loop.trips) (u : Fin 16) :
    k0_off2 k (BitVec.ofNat 32 u.val) = ![0, min (16 * k.val + u.val) 31, 0, 0] := by
  revert k u; decide +kernel

theorem k0_off3_eq (k : Fin k0_t2_loop.trips) (u : Fin 16) :
    k0_off3 k (BitVec.ofNat 32 u.val) = ![0, 512 * min (16 * k.val + u.val + 1) 31, 0] := by
  revert k u; decide +kernel

theorem k0_off4_eq (k : Fin k0_t2_loop.trips) (u : Fin 16) :
    k0_off4 k (BitVec.ofNat 32 u.val) = ![0, min (16 * k.val + u.val) 31, 0, 0] := by
  revert k u; decide +kernel

section Loops

variable (𝒱 : Variants) (c : Dev nD) (bd : Option 𝒱.V) (E : Set ℕ) (i : grid0.Coords)
  (arg3 : Memref sig .tc .vmem S1x2x256x512 .bf16) (harg3 : arg3.IsWhole)
  (arg4 : Memref sig .tc .vmem S1x16384x256 .bf16) (harg4 : arg4.IsWhole)
  (arg5 : Memref sig .tc .vmem S1x32x144x512 .bf16) (harg5 : arg5.IsWhole)
  (arg6 : Memref sig .tc .vmem S1024x128 .bf16) (harg6 : arg6.IsWhole)
  (arg7 : Memref sig .tc .vmem S2x2x512x512 .f32) (harg7 : arg7.IsWhole)
  (arg8 : Memref sig .tc .vmem S2x144x512 .f32) (harg8 : arg8.IsWhole)
  (X4 : BufTy.Contents (Elt F) arg4.view.ty) (X5 : BufTy.Contents (Elt F) arg5.view.ty)

/-- The first loop: before trip `k`, sixteen tiles a trip are done. -/
def inv1 (v0 : Vec F S1x1x256x512 .bf16) (k : ℕ) (acc : FVec F S1x512 .f32 × FVec F S1x512 .f32) : sProp 𝕄 :=
  Inv (F := F) arg4 arg5 arg7 arg8 (shapeCast S256x512 v0 shapeCasts_S1x1x256x512_S256x512)
    (ktile (arg4.view.read (Elt F) X4)) (vtile (arg5.view.read (Elt F) X5)) c X4 X5 0 0 (16 * k) acc

theorem inv1_step (v0 : Vec F S1x1x256x512 .bf16) (k : Fin k0_t1_loop.trips) (acc : FVec F S1x512 .f32 × FVec F S1x512 .f32) :
    inv1 c arg4 arg5 arg7 arg8 X4 X5 v0 k.val acc
      ⊢ wp frame (wpE (defs₀ (F := F)) 𝒱 (c : Thread nD τ) bd) E
          (k0_t1_body (F := F) i arg3 harg3 arg4 harg4 arg5 harg5 arg6 harg6 arg7 harg7 arg8 harg8 v0 k acc)
          (inv1 c arg4 arg5 arg7 arg8 X4 X5 v0 (k.val + 1)) := by
  rw [body0_eq]
  exact trip_inv arg4 arg5 arg7 arg8 _ _ _ 0 _ _ _ _ acc 𝒱 c bd E X4 X5 (16 * k.val)
    (fun u => View.readAt_unit_eq_of_eq _ _ (k0_off1_eq k u) _)
    (fun u => View.readAt_unit_eq_of_eq _ _ (k0_off2_eq k u) _)

/-- The second loop, on the other half of the queries. -/
def inv2 (v0 : Vec F S1x1x256x512 .bf16) (k : ℕ) (acc : FVec F S1x512 .f32 × FVec F S1x512 .f32) : sProp 𝕄 :=
  Inv (F := F) arg4 arg5 arg7 arg8 (shapeCast S256x512 v0 shapeCasts_S1x1x256x512_S256x512)
    (ktile (arg4.view.read (Elt F) X4)) (vtile (arg5.view.read (Elt F) X5)) c X4 X5 1 0 (16 * k) acc

theorem inv2_step (v0 : Vec F S1x1x256x512 .bf16) (k : Fin k0_t2_loop.trips) (acc : FVec F S1x512 .f32 × FVec F S1x512 .f32) :
    inv2 c arg4 arg5 arg7 arg8 X4 X5 v0 k.val acc
      ⊢ wp frame (wpE (defs₀ (F := F)) 𝒱 (c : Thread nD τ) bd) E
          (k0_t2_body (F := F) i arg3 harg3 arg4 harg4 arg5 harg5 arg6 harg6 arg7 harg7 arg8 harg8 v0 k acc)
          (inv2 c arg4 arg5 arg7 arg8 X4 X5 v0 (k.val + 1)) := by
  rw [body1_eq]
  exact trip_inv arg4 arg5 arg7 arg8 _ _ _ 1 _ _ _ _ acc 𝒱 c bd E X4 X5 (16 * k.val)
    (fun u => View.readAt_unit_eq_of_eq _ _ (k0_off3_eq k u) _)
    (fun u => View.readAt_unit_eq_of_eq _ _ (k0_off4_eq k u) _)

end Loops

/-! ## One point of the grid -/

/-- What the accumulator's last state gives: the values over the weights' sum, transposed. -/
def finish (a : FVec F S144x512 .f32) : FVec F S512x128 .bf16 :=
  k0_pay208 (shapeCast S1x144x512 a shapeCasts_S144x512_S1x144x512)

/-- The two stores of a point, one for each half of its queries. -/
def outPieces (x3 : Vec F S1x2x256x512 .bf16) (x4 : Vec F S1x16384x256 .bf16) (x5 : Vec F S1x32x144x512 .bf16) :
    List (View.Piece (Elt F) S1024x128 .bf16) :=
  [⟨Rect.unit (s := S1024x128) ![512, 0] S512x128.size inb_S1024x128_S512x128_512_0, finish (runAcc (qtile x3 1) (ktile x4) (vtile x5) 32)⟩,
   ⟨Rect.unit (s := S1024x128) ![0, 0] S512x128.size inb_S1024x128_S512x128_0_0, finish (runAcc (qtile x3 0) (ktile x4) (vtile x5) 32)⟩]

/-- The block a point leaves. -/
def outBlock (x3 : Vec F S1x2x256x512 .bf16) (x4 : Vec F S1x16384x256 .bf16) (x5 : Vec F S1x32x144x512 .bf16) : Vec F S1024x128 .bf16 :=
  View.canon (outPieces x3 x4 x5)

theorem out_cover (x3 : Vec F S1x2x256x512 .bf16) (x4 : Vec F S1x16384x256 .bf16) (x5 : Vec F S1x32x144x512 .bf16) (y : S1024x128.Idx) :
    ∃ p ∈ outPieces x3 x4 x5, y ∈ p.1.set := by
  have h0 : (y 0).val < 1024 := (y 0).isLt
  have h1 : (y 1).val < 128 := (y 1).isLt
  by_cases h : (y 0).val < 512
  · refine ⟨_, List.mem_cons_of_mem _ (List.mem_singleton.mpr rfl), ?_⟩
    refine (Rect.mem_set_unit (s := S1024x128) (inb := inb_S1024x128_S512x128_0_0)).mpr fun a => ?_
    fin_cases a <;> simp [S512x128] <;> omega
  · refine ⟨_, List.mem_cons_self, ?_⟩
    refine (Rect.mem_set_unit (s := S1024x128) (inb := inb_S1024x128_S512x128_512_0)).mpr fun a => ?_
    fin_cases a <;> simp [S512x128] <;> omega

abbrev 𝒱₀ : Variants := Variants.none

theorem kernel_run (c : Dev nD) (i : grid0.Coords)
    (arg3 : Memref sig .tc .vmem S1x2x256x512 .bf16) (harg3 : arg3.IsWhole)
    (arg4 : Memref sig .tc .vmem S1x16384x256 .bf16) (harg4 : arg4.IsWhole)
    (arg5 : Memref sig .tc .vmem S1x32x144x512 .bf16) (harg5 : arg5.IsWhole)
    (arg6 : Memref sig .tc .vmem S1024x128 .bf16) (harg6 : arg6.IsWhole)
    (arg7 : Memref sig .tc .vmem S2x2x512x512 .f32) (harg7 : arg7.IsWhole)
    (arg8 : Memref sig .tc .vmem S2x144x512 .f32) (harg8 : arg8.IsWhole)
    (x3 : Vec F S1x2x256x512 .bf16) (x4 : Vec F S1x16384x256 .bf16) (x5 : Vec F S1x32x144x512 .bf16)
    (E : Set ℕ) (K : PUnit → sProp 𝕄) :
    iprop(owns (c : Thread nD τ) arg3 fullShare x3 ∗ owns (c : Thread nD τ) arg4 fullShare x4 ∗ owns (c : Thread nD τ) arg5 fullShare x5
        ∗ (∃ d, owns (c : Thread nD τ) arg6 fullShare d)
        ∗ (∃ f7, arg7.view.loc (c : Thread nD τ) ↦[arg7.view.set]{fullShare} f7) ∗ (∃ f8, arg8.view.loc (c : Thread nD τ) ↦[arg8.view.set]{fullShare} f8)
        ∗ (iprop(owns (c : Thread nD τ) arg3 fullShare x3 ∗ owns (c : Thread nD τ) arg4 fullShare x4 ∗ owns (c : Thread nD τ) arg5 fullShare x5
            ∗ owns (c : Thread nD τ) arg6 fullShare (outBlock x3 x4 x5)
            ∗ (∃ f7, arg7.view.loc (c : Thread nD τ) ↦[arg7.view.set]{fullShare} f7) ∗ (∃ f8, arg8.view.loc (c : Thread nD τ) ↦[arg8.view.set]{fullShare} f8)) -∗ K ⟨⟩))
      ⊢ wp frame (wpE (defs₀ (F := F)) 𝒱₀ c none) E (cc0_mla_attn i arg3 harg3 arg4 harg4 arg5 harg5 arg6 harg6 arg7 harg7 arg8 harg8) K := by
  unfold owns
  iintro ⟨⟨%f3, %hf3, H3⟩, ⟨%f4, %hf4, H4⟩, ⟨%f5, %hf5, H5⟩, ⟨%d6, %f6, -, H6⟩, ⟨%f7, H7⟩, ⟨%f8, H8⟩, Hk⟩
  sl_unfold [cc0_mla_attn]
  sl_exec
  sl_for (inv1 c arg4 arg5 arg7 arg8 f4 f5 (arg3.view.readAt (Elt F) (Rect.unit (s := S1x2x256x512) ![0, 0, 0, 0] S1x1x256x512.size inb_S1x2x256x512_S1x1x256x512_0_0_0_0).toLoadRect f3)) $$ [H4 H5 H7 H8]
  case region =>
    intro k acc
    exact inv1_step 𝒱₀ c none E i arg3 harg3 arg4 harg4 arg5 harg5 arg6 harg6 arg7 harg7 arg8 harg8 f4 f5 _ k acc
  · unfold inv1
    isplitl [H4]; · iexact H4
    isplitl [H5]; · iexact H5
    isplitl [H7]
    · iexists _; isplitl [H7]; · iexact H7
      ipureintro
      exact readAt_writes_self _ _ _ _ _
    isplitl [H8]
    · iexists _; isplitl [H8]; · iexact H8
      ipureintro
      exact readAt_writes_self _ _ _ _ _
    ipureintro
    rfl
  iintro %acc HI
  unfold inv1
  icases HI with ⟨H4, H5, ⟨%g7, H7, %h7⟩, ⟨%g8, H8, %h8⟩, %hacc⟩
  sl_exec
  sl_for (inv2 c arg4 arg5 arg7 arg8 f4 f5 (arg3.view.readAt (Elt F) (Rect.unit (s := S1x2x256x512) ![0, 1, 0, 0] S1x1x256x512.size inb_S1x2x256x512_S1x1x256x512_0_1_0_0).toLoadRect f3)) $$ [H4 H5 H7 H8]
  case region =>
    intro k acc
    exact inv2_step 𝒱₀ c none E i arg3 harg3 arg4 harg4 arg5 harg5 arg6 harg6 arg7 harg7 arg8 harg8 f4 f5 _ k acc
  · unfold inv2
    isplitl [H4]; · iexact H4
    isplitl [H5]; · iexact H5
    isplitl [H7]
    · iexists _; isplitl [H7]; · iexact H7
      ipureintro
      exact readAt_writes_self _ _ _ _ _
    isplitl [H8]
    · iexists _; isplitl [H8]; · iexact H8
      ipureintro
      exact readAt_writes_self _ _ _ _ _
    ipureintro
    rfl
  iintro %acc' HI
  unfold inv2
  icases HI with ⟨H4, H5, ⟨%g7', H7, %h7'⟩, ⟨%g8', H8, %h8'⟩, %hacc'⟩
  sl_exec
  sl_step
  have e1 : Scf.trips k0_t1_loop.lb k0_t1_loop.ub k0_t1_loop.st = 2 := by decide
  have e2 : Scf.trips k0_t2_loop.lb k0_t2_loop.ub k0_t2_loop.st = 2 := by decide
  iapply Hk
  isplitl [H3]
  · iexists _; isplitr
    · ipureintro; exact hf3
    iexact H3
  isplitl [H4]
  · iexists _; isplitr
    · ipureintro; exact hf4
    iexact H4
  isplitl [H5]
  · iexists _; isplitr
    · ipureintro; exact hf5
    iexact H5
  isplitl [H6]
  · iexists _; isplitr; swap; · iexact H6
    ipureintro
    subst hf3 hf4 hf5
    rw [e2]
    unfold kernel_run.sl.r
    rw [e1]
    exact View.read_writes_eq_canon arg6.view f6 (outPieces (arg3.view.read (Elt F) f3) (arg4.view.read (Elt F) f4) (arg5.view.read (Elt F) f5)) (out_cover _ _ _)
  isplitl [H7]; · iexists _; iexact H7
  iexists _; iexact H8

end Cert.KernelIdeal.Attn

end
-- ==== Proof.AttnMain.lean ====
module

public import proofs.«01_k».proof.Proof.AttnRun

@[expose] public section

set_option maxRecDepth 8192

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The block of the result that point `t` of the grid computes, from the point's queries, keys and values. -/
def outAt (c : Dev nD) (t : Fin cfg0.N) : Vec F S1024x128 .bf16 :=
  outBlock (iblk m c 0 t) (iblk m c 1 t) (iblk m c 2 t)

/-- The pipeline's data: the inputs' blocks stay, the result's block becomes `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ _ := Pipeline.ΦA spec0 c
  q _ := fullShare
  owed _ := 0

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = outAt m c t := by dsimp only [dats]

theorem before_0 (c : Dev nD) (t : Fin cfg0.N) (d) : (dats m 0 c).before 0 t d = iblk m c 0 t :=
  before0_0_of m (dats m 0 c) rfl (after_0 m c) t d
theorem before_1 (c : Dev nD) (t : Fin cfg0.N) (d) : (dats m 0 c).before 1 t d = iblk m c 1 t :=
  before0_1_of m (dats m 0 c) rfl (after_1 m c) t d
theorem before_2 (c : Dev nD) (t : Fin cfg0.N) (d) : (dats m 0 c).before 2 t d = iblk m c 2 t :=
  before0_2_of m (dats m 0 c) rfl (after_2 m c) t d

theorem body_obligation (c : Dev nD) : BodyObligation (dats (F := F) m 0 c) (defs₀ (F := F)) 𝒱₀ () Set.univ := fun t => by
  rw [bigSep_W0, bigSep_W0]
  sl_whnfR [defs₀, Defs.onTc]
  simp only [before_0, before_1, before_2]
  rw [show (dats m 0 c).Φ t.succ = (dats m 0 c).Φ t.castSucc from rfl,
    show (dats m 0 c).owesAt () t.succ = (dats m 0 c).owesAt () t.castSucc from rfl, after_0, after_1, after_2, after_3]
  rw [show (dats m 0 c).Φ t.castSucc = iprop(((∃ f, ((c : Thread nD τ).loc cc0_scratch0) ↦{fullShare} f) ∗ (∃ f, ((c : Thread nD τ).loc cc0_scratch1) ↦{fullShare} f))
    ∗ ∃ r, prngReg c r) from congrArg (fun P => iprop(P ∗ ∃ r, prngReg c r)) (scopedRest0_eq c)]
  iintro ⟨⟨⟨⟨%g7, H7⟩, ⟨%g8, H8⟩⟩, Hr⟩, Ho, ⟨%d0, H0⟩, ⟨%d1, H1⟩, ⟨%d2, H2⟩, ⟨%d3, H3⟩⟩
  iapply (kernel_run c (grid0.coords t) _ _ _ _ _ _ _ _ _ _ _ _ (iblk m c 0 t) (iblk m c 1 t) (iblk m c 2 t) Set.univ _)
  isplitl [H0]; · iexact H0
  isplitl [H1]; · iexact H1
  isplitl [H2]; · iexact H2
  isplitl [H3]; · iexists _; iexact H3
  isplitl [H7]; · iexists g7; simp only [Memref.whole, View.set_whole]; iexact H7
  isplitl [H8]; · iexists g8; simp only [Memref.whole, View.set_whole]; iexact H8
  iintro ⟨H0, H1, H2, H3, ⟨%g7', H7⟩, ⟨%g8', H8⟩⟩
  isplitl [H7 H8 Hr]
  · isplitl [H7 H8]
    · isplitl [H7]
      · iexists g7'; simp only [Memref.whole, View.set_whole]; iexact H7
      · iexists g8'; simp only [Memref.whole, View.set_whole]; iexact H8
    iexact Hr
  isplitl [Ho]; · iexact Ho
  isplitl [H0]; · iexact H0
  isplitl [H1]; · iexact H1
  isplitl [H2]; · iexact H2
  iexact H3

set_option backward.isDefEq.respectTransparency.types false in
/-- Every weakly fair execution ends, with the pipeline's arrays as the data say and all counters at zero. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := fun _ _ => rfl) (hΦ := fun _ _ => rfl)

/-- The arguments unchanged, the counters at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_with_sems (frame_of m ρ (dats m) fun _ _ => rfl) (run_main m ρ)

end Cert.KernelIdeal.Attn

end
-- ==== Proof.AttnMath.lean ====
/- The arithmetic of the tiled softmax, apart from any program: weights kept relative to a running maximum, in powers
   of two, give the softmax taken over the whole row in powers of e. -/
module

public import Idealize.ShloMosaic.PureOps.Ideal
public import Idealize.ShloMosaic.Lib.Pointwise

@[expose] public section

noncomputable section

namespace Cert.AttnMath

open Idealize.ShloMosaic

/-- A nonnegative real factor distributes over any finite sum of extended reals. -/
theorem coe_mul_sum {ι : Type*} (s : Finset ι) (f : ι → EReal) (c : ℝ) (hc : 0 ≤ c) :
    (c : EReal) * ∑ i ∈ s, f i = ∑ i ∈ s, (c : EReal) * f i := by
  classical
  induction s using Finset.induction_on with
  | empty => simp
  | insert a s ha ih =>
    rw [Finset.sum_insert ha, Finset.sum_insert ha,
      EReal.left_distrib_of_nonneg_of_ne_top (by exact_mod_cast hc) (EReal.coe_ne_top c), ih]

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The greatest of finitely many reals, begun from minus infinity, is a real. -/
theorem fold_max_real {n : ℕ} [NeZero n] (s : Fin n → ℝ) :
    ∃ M : ℝ, (Finset.univ.fold max (⊥ : EReal) fun k => (s k : EReal)) = M := by
  set x := Finset.univ.fold max (⊥ : EReal) fun k => (s k : EReal) with hx
  have h1 : x < ⊤ := (Finset.fold_max_lt _).2 ⟨bot_lt_top, fun k _ => EReal.coe_lt_top _⟩
  have h2 : ⊥ < x := lt_of_lt_of_le (EReal.bot_lt_coe (s 0))
    ((Finset.le_fold_max _).2 (Or.inr ⟨0, Finset.mem_univ _, le_rfl⟩))
  exact ⟨x.toReal, (EReal.coe_toReal h1.ne h2.ne').symm⟩

theorem exp2_coe (r : ℝ) : Ideal.exp2 (r : EReal) = ((2 : ℝ) ^ r : ℝ) := rfl
theorem exp_coe (r : ℝ) : Ideal.exp (r : EReal) = (Real.exp r : ℝ) := rfl

/-- The accumulator of the tiled recursion, whatever real numbers the exponents are taken relative to. -/
theorem online {n : ℕ} (s : ℕ → Fin n → ℝ) (V : ℕ → Fin n → EReal) (m : ℕ → ℝ) (a : ℕ → EReal) (h0 : a 0 = 0)
    (hs : ∀ t, a (t + 1) = Ideal.exp2 ((m t : EReal) - (m (t + 1) : EReal)) * a t
        + ∑ r, V t r * Ideal.exp2 ((s t r : EReal) - (m (t + 1) : EReal))) (t : ℕ) :
    a t = ∑ u ∈ Finset.range t, ∑ r, V u r * (((2 : ℝ) ^ (s u r - m t) : ℝ) : EReal) := by
  induction t with
  | zero => simp [h0]
  | succ t ih =>
    rw [hs, ih, Finset.sum_range_succ, ← EReal.coe_sub, exp2_coe, coe_mul_sum _ _ _ (Real.rpow_nonneg (by norm_num) _)]
    congr 1
    · refine Finset.sum_congr rfl fun u _ => ?_
      rw [coe_mul_sum _ _ _ (Real.rpow_nonneg (by norm_num) _)]
      refine Finset.sum_congr rfl fun r _ => ?_
      rw [mul_left_comm, ← EReal.coe_mul, ← Real.rpow_add (by norm_num)]
      rw [show m t - m (t + 1) + (s u r - m t) = s u r - m (t + 1) by ring]

/-- The softmax weight of position `k` of a row of scores. -/
def weight {κ : Type*} [Fintype κ] (x : κ → ℝ) (k : κ) : ℝ := Real.exp (x k) / ∑ j, Real.exp (x j)

/-- The weighted mean of the values `v` by the softmax of the scores `x`. -/
def mean {κ : Type*} [Fintype κ] (x : κ → ℝ) (v : κ → EReal) : EReal := ∑ k, (weight x k : EReal) * v k

/-- Powers of two relative to a number `m`, divided by their sum, are the softmax. -/
theorem weight_two {κ : Type*} [Fintype κ] (x : κ → ℝ) (m : ℝ) (k : κ) :
    (2 : ℝ) ^ (x k / Real.log 2 - m) / ∑ j, (2 : ℝ) ^ (x j / Real.log 2 - m) = weight x k := by
  have hl : Real.log 2 ≠ 0 := (Real.log_pos (by norm_num)).ne'
  have e : ∀ j, (2 : ℝ) ^ (x j / Real.log 2 - m) = Real.exp (x j) * (2 : ℝ) ^ (-m) := fun j => by
    rw [sub_eq_add_neg, Real.rpow_add (by norm_num), Real.rpow_def_of_pos (by norm_num) (x j / Real.log 2), mul_div_cancel₀ _ hl]
  simp only [e, ← Finset.sum_mul]
  unfold weight
  rw [mul_div_mul_right _ _ (Real.rpow_pos_of_pos (by norm_num) _).ne']

/-- Powers of e relative to a number `m`, divided by their sum, are the softmax. -/
theorem weight_exp {κ : Type*} [Fintype κ] (x : κ → ℝ) (m : ℝ) (k : κ) :
    Real.exp (x k - m) / ∑ j, Real.exp (x j - m) = weight x k := by
  simp only [sub_eq_add_neg, Real.exp_add, ← Finset.sum_mul]
  unfold weight
  rw [mul_div_mul_right _ _ (Real.exp_pos _).ne']

/-- The quotient of the weighted values by the weights' sum. -/
theorem quotient {κ : Type*} [Fintype κ] [Nonempty κ] (x : κ → ℝ) (v : κ → EReal) (m : ℝ) :
    Ideal.div (∑ k, v k * (((2 : ℝ) ^ (x k / Real.log 2 - m) : ℝ) : EReal))
        (∑ k, (1 : EReal) * (((2 : ℝ) ^ (x k / Real.log 2 - m) : ℝ) : EReal)) = mean x v := by
  have hp : 0 < ∑ k, (2 : ℝ) ^ (x k / Real.log 2 - m) :=
    Finset.sum_pos (fun k _ => Real.rpow_pos_of_pos (by norm_num) _) Finset.univ_nonempty
  simp only [one_mul]
  rw [← coe_sum, Ideal.div_coe hp.ne', mul_comm, coe_mul_sum _ _ _ (by positivity)]
  unfold mean
  refine Finset.sum_congr rfl fun k _ => ?_
  rw [mul_left_comm, ← EReal.coe_mul, ← weight_two x m k, mul_comm]
  congr 2
  ring

/-- The softmax row, each entry a quotient, against the values. -/
theorem softmax_row {κ : Type*} [Fintype κ] [Nonempty κ] (x : κ → ℝ) (v : κ → EReal) (m : ℝ) :
    ∑ k, Ideal.div (Ideal.exp ((x k : EReal) - m)) (∑ j, Ideal.exp ((x j : EReal) - m)) * v k = mean x v := by
  have hp : 0 < ∑ k, Real.exp (x k - m) :=
    Finset.sum_pos (fun k _ => Real.exp_pos _) Finset.univ_nonempty
  simp only [← EReal.coe_sub, exp_coe]
  rw [← coe_sum]
  unfold mean
  refine Finset.sum_congr rfl fun k _ => ?_
  rw [Ideal.div_coe hp.ne', ← EReal.coe_mul, ← weight_exp x m k]
  congr 2
  ring

/-- A sum over `n * b` positions, tile by tile. -/
theorem sum_tiles {n b : ℕ} (f : Fin (n * b) → EReal) :
    ∑ k, f k = ∑ u : Fin n, ∑ r : Fin b, f (finProdFinEquiv (u, r)) := by
  rw [← Equiv.sum_comp finProdFinEquiv, Fintype.sum_prod_type]

end Cert.AttnMath

end
-- ==== Proof.AttnEntry.lean ====
module

public import proofs.«01_k».proof.Proof.AttnRun
public import proofs.«01_k».proof.Proof.AttnMath
public import Idealize.ShloMosaic.Lib.Pointwise

@[expose] public section

set_option maxRecDepth 8192

noncomputable section

namespace Cert.KernelIdeal.Attn

open Idealize.ShloMosaic Idealize.ShloMosaic.TcCoe
open Cert.KernelIdeal.Gen Cert.AttnMath

/-- The pattern of minus infinity. -/
theorem ofBits_neg_inf : Ideal.ofBits .f32 0xFF800000#32 = ⊥ := by simp [Ideal.ofBits, Ideal.ieee]
/-- The pattern of plus infinity. -/
theorem ofBits_inf : Ideal.ofBits .f32 0x7F800000#32 = ⊤ := by simp [Ideal.ofBits, Ideal.ieee]

/-- The scale, one over the square root of 192 to the nearest float, is a real number. -/
theorem ofBits_scale : ∃ r : ℝ, Ideal.ofBits .f32 0x3D93CD3A#32 = (r : EReal) :=
  ⟨9686330 / 2 ^ 27, by simp [Ideal.ofBits, Ideal.ieee, -EReal.coe_mul]; norm_num⟩
/-- The running maximum's start is a real number. -/
theorem ofBits_start : ∃ r : ℝ, Ideal.ofBits .f32 0xF149F2CA#32 = (r : EReal) :=
  ⟨-(13234890 * 2 ^ 76), by simp [Ideal.ofBits, Ideal.ieee, -EReal.coe_mul, -EReal.coe_neg]⟩
theorem ofBits_two : Ideal.ofBits .f32 0x40000000#32 = ((2 : ℝ) : EReal) := by
  simp [Ideal.ofBits, Ideal.ieee, -EReal.coe_mul]; norm_num

theorem score_apply (q : FVec Ideal S256x512 .bf16) (kb : Vec Ideal S1x512x256 .bf16) (r c : Fin 512) :
    score q kb (ix2 r c) = ∑ e : Fin 256, kb (ix3 (0 : Fin 1) r e) * q (ix2 e c) := by
  pointwise [score]

theorem colMax_apply (s : FVec Ideal S512x512 .f32) (c : Fin 512) :
    colMax s (ix2 (0 : Fin 1) c) = Finset.univ.fold max ⊥ fun r : Fin 512 => s (ix2 r c) := by
  pointwise [colMax]
  rw [ofBits_neg_inf]

theorem accNext_apply (m mt : FVec Ideal S1x512 .f32) (s : FVec Ideal S512x512 .f32) (vb : Vec Ideal S1x1x144x512 .bf16)
    (a : FVec Ideal S144x512 .f32) (d : Fin 144) (c : Fin 512) :
    accNext m mt s vb a (ix2 d c)
      = Ideal.exp2 (m (ix2 (0 : Fin 1) c) - max (m (ix2 (0 : Fin 1) c)) (mt (ix2 (0 : Fin 1) c))) * a (ix2 d c)
        + ∑ r : Fin 512, vb (ix4 (0 : Fin 1) (0 : Fin 1) d r)
            * Ideal.exp2 (s (ix2 r c) - max (m (ix2 (0 : Fin 1) c)) (mt (ix2 (0 : Fin 1) c))) := by
  pointwise [accNext]
  rfl

theorem finish_apply (a : FVec Ideal S144x512 .f32) (c : Fin 512) (d : Fin 128) :
    finish a (ix2 c d) = Ideal.div (a (ix2 (⟨d.val, by omega⟩ : Fin 144) c)) (a (ix2 (128 : Fin 144) c)) := by
  pointwise [finish, k0_pay208]

/-- The running maximum of a column of real scores is a real number, before every tile. -/
theorem runMax_real (q : FVec Ideal S256x512 .bf16) (K : ℕ → Vec Ideal S1x512x256 .bf16) (c : Fin 512) (x : ℕ → Fin 512 → ℝ)
    (hx : ∀ t r, score q (K t) (ix2 r c) = (x t r : EReal)) (t : ℕ) :
    ∃ M : ℝ, runMax q K t (ix2 (0 : Fin 1) c) = (M : EReal) := by
  induction t with
  | zero =>
    obtain ⟨r, hr⟩ := ofBits_start
    exact ⟨r, hr⟩
  | succ t ih =>
    obtain ⟨M, hM⟩ := ih
    obtain ⟨M', hM'⟩ := fold_max_real (x t)
    refine ⟨max M M', ?_⟩
    show max (runMax q K t (ix2 (0 : Fin 1) c)) (colMax (score q (K t)) (ix2 (0 : Fin 1) c)) = _
    rw [colMax_apply, hM]
    simp only [hx]
    rw [hM']
    exact (EReal.coe_strictMono.monotone.map_max).symm

/-- What one column of queries receives: the softmax mean of the values, its scores `X` the base-two ones times log 2. -/
theorem tile_value (q : FVec Ideal S256x512 .bf16) (K : ℕ → Vec Ideal S1x512x256 .bf16) (V : ℕ → Vec Ideal S1x1x144x512 .bf16)
    (c : Fin 512) (d : Fin 128) (X : ℕ → Fin 512 → ℝ) (v : ℕ → Fin 512 → EReal)
    (hX : ∀ t r, score q (K t) (ix2 r c) = ((X t r / Real.log 2 : ℝ) : EReal))
    (hV : ∀ t r, V t (ix4 (0 : Fin 1) (0 : Fin 1) (⟨d.val, by omega⟩ : Fin 144) r) = v t r)
    (h1 : ∀ t r, V t (ix4 (0 : Fin 1) (0 : Fin 1) (128 : Fin 144) r) = 1) :
    finish (runAcc q K V 32) (ix2 c d) = mean (fun p : Fin 32 × Fin 512 => X p.1.val p.2) (fun p => v p.1.val p.2) := by
  choose m hm using runMax_real q K c _ hX
  have hacc : ∀ (e : Fin 144) (t : ℕ), runAcc q K V t (ix2 e c)
      = ∑ u ∈ Finset.range t, ∑ r, V u (ix4 (0 : Fin 1) (0 : Fin 1) e r) * (((2 : ℝ) ^ (X u r / Real.log 2 - m t) : ℝ) : EReal) := by
    intro e
    refine online (fun t r => X t r / Real.log 2) (fun u r => V u (ix4 (0 : Fin 1) (0 : Fin 1) e r)) m _ ?_ ?_
    · exact Ideal.ofBits_zero_f32
    · intro t
      have hmax : max (runMax q K t (ix2 (0 : Fin 1) c)) (colMax (score q (K t)) (ix2 (0 : Fin 1) c)) = (m (t + 1) : EReal) := hm (t + 1)
      show accNext (runMax q K t) (colMax (score q (K t))) (score q (K t)) (V t) (runAcc q K V t) (ix2 e c) = _
      rw [accNext_apply, hmax, hm t]
      simp only [hX]
  have tiles : ∀ f : ℕ → Fin 512 → EReal, ∑ u ∈ Finset.range 32, ∑ r, f u r = ∑ p : Fin 32 × Fin 512, f p.1.val p.2 := fun f => by
    rw [Fintype.sum_prod_type, ← Fin.sum_univ_eq_sum_range (fun u => ∑ r, f u r)]
  rw [finish_apply, hacc, hacc]
  simp only [hV, h1]
  rw [tiles, tiles]
  exact quotient (fun p : Fin 32 × Fin 512 => X p.1.val p.2) (fun p => v p.1.val p.2) (m 32)

end Cert.KernelIdeal.Attn

end
-- ==== Proof.AttnHost.lean ====
module

public import proofs.«01_k».proof.Proof.AttnMain
public import Idealize.ShloMosaic.Lib.Pointwise
public import Idealize.ShloMosaic.Lib.IdealHost
public import Idealize.ShloMosaic.Lib.StableHlo.Run

@[expose] public section

set_option maxRecDepth 8192

noncomputable section

namespace Cert.KernelIdeal.Attn

open Idealize.ShloMosaic Idealize.ShloMosaic.TcCoe Idealize.ShloMosaic.StableHlo
open Cert.KernelIdeal.Gen

section Prep

variable {F : FTy → Type} [FloatOps F]

/-- The base-two scale of the scores. -/
def scaleV : FVec F S_ .f32 := Host.divf (constant S_ .f32 0x3D93CD3A#32) (Host.log (constant S_ .f32 0x40000000#32))

/-- The queries as the call takes them: head by head, tile by tile, transposed, scaled, the two parts and zeros. -/
def prepQ (a : FVec F S2x6x16384x128 .f32) (b : FVec F S2x6x16384x64 .f32) : FVec F S6x64x256x512 .bf16 :=
  concatenate S6x64x256x512 2
    [⟨S6x64x128x512, truncf .bf16 (transpose S6x64x128x512 [0, 1, 3, 2] (shapeCast S6x64x512x128 (transpose S6x2x16384x128 [1, 0, 2, 3]
        (mulf a (broadcastInDim S2x6x16384x128 ![] bcast_S_S2x6x16384x128 scaleV)) transposes_S2x6x16384x128_S6x2x16384x128_1_0_2_3)
        shapeCasts_S6x2x16384x128_S6x64x512x128) transposes_S6x64x512x128_S6x64x128x512_0_1_3_2) bitsLt_bf16_f32⟩,
     ⟨S6x64x64x512, truncf .bf16 (transpose S6x64x64x512 [0, 1, 3, 2] (shapeCast S6x64x512x64 (transpose S6x2x16384x64 [1, 0, 2, 3]
        (mulf b (broadcastInDim S2x6x16384x64 ![] bcast_S_S2x6x16384x64 scaleV)) transposes_S2x6x16384x64_S6x2x16384x64_1_0_2_3)
        shapeCasts_S6x2x16384x64_S6x64x512x64) transposes_S6x64x512x64_S6x64x64x512_0_1_3_2) bitsLt_bf16_f32⟩,
     ⟨S6x64x64x512, broadcastInDim S6x64x64x512 ![] bcast_S_S6x64x64x512 (constant S_ .bf16 0x0000#16)⟩]
    concatenates_S6x64x128x512_S6x64x64x512_S6x64x64x512_S6x64x256x512_d2

/-- The keys: head by head, the two parts and zeros, the second part shared by the heads. -/
def prepK (a : FVec F S2x6x16384x128 .f32) (b : FVec F S2x16384x64 .f32) : FVec F S6x32768x256 .bf16 :=
  concatenate S6x32768x256 2
    [⟨S6x32768x128, truncf .bf16 (shapeCast S6x32768x128 (transpose S6x2x16384x128 [1, 0, 2, 3] a transposes_S2x6x16384x128_S6x2x16384x128_1_0_2_3)
        shapeCasts_S6x2x16384x128_S6x32768x128) bitsLt_bf16_f32⟩,
     ⟨S6x32768x64, broadcastInDim S6x32768x64 ![0, 1, 2] bcast_S1x32768x64_S6x32768x64_0_1_2
        (truncf .bf16 (shapeCast S1x32768x64 b shapeCasts_S2x16384x64_S1x32768x64) bitsLt_bf16_f32)⟩,
     ⟨S6x32768x64, broadcastInDim S6x32768x64 ![] bcast_S_S6x32768x64 (constant S_ .bf16 0x0000#16)⟩]
    concatenates_S6x32768x128_S6x32768x64_S6x32768x64_S6x32768x256_d2

/-- The values: head by head, tile by tile, transposed, then a row of ones and rows of zeros. -/
def prepV (a : FVec F S2x6x16384x128 .f32) : FVec F S6x64x144x512 .bf16 :=
  concatenate S6x64x144x512 2
    [⟨S6x64x128x512, truncf .bf16 (transpose S6x64x128x512 [0, 1, 3, 2] (shapeCast S6x64x512x128 (transpose S6x2x16384x128 [1, 0, 2, 3]
        a transposes_S2x6x16384x128_S6x2x16384x128_1_0_2_3)
        shapeCasts_S6x2x16384x128_S6x64x512x128) transposes_S6x64x512x128_S6x64x128x512_0_1_3_2) bitsLt_bf16_f32⟩,
     ⟨S6x64x1x512, broadcastInDim S6x64x1x512 ![] bcast_S_S6x64x1x512 (constant S_ .bf16 0x3F80#16)⟩,
     ⟨S6x64x15x512, broadcastInDim S6x64x15x512 ![] bcast_S_S6x64x15x512 (constant S_ .bf16 0x0000#16)⟩]
    concatenates_S6x64x128x512_S6x64x1x512_S6x64x15x512_S6x64x144x512_d2

variable (m : (ℓ : Loc nD τ sig) → Buf (Elt F) ℓ) (c : Dev nD)

set_option maxHeartbeats 4000000 in
theorem V_Q : V m c main_v17 = prepQ (F := F) (m ((c.tc : Thread nD τ).loc main_arg0)) (m ((c.tc : Thread nD τ).loc main_arg1)) := by
  unfold V hostOps0
  after_results <;> rfl

set_option maxHeartbeats 4000000 in
theorem V_K : V m c main_v25 = prepK (F := F) (m ((c.tc : Thread nD τ).loc main_arg2)) (m ((c.tc : Thread nD τ).loc main_arg3)) := by
  unfold V hostOps0
  after_results <;> rfl

set_option maxHeartbeats 4000000 in
theorem V_V : V m c main_v32 = prepV (F := F) (m ((c.tc : Thread nD τ).loc main_arg4)) := by
  unfold V hostOps0
  after_results <;> rfl

end Prep

/-- The scale at `Ideal`, a quotient of extended reals. -/
def scale2 : EReal := Ideal.div (Ideal.ofBits .f32 0x3D93CD3A#32) (Ideal.log (Ideal.ofBits .f32 0x40000000#32))

section Entries

variable (a : FVec Ideal S2x6x16384x128 .f32) (b : FVec Ideal S2x6x16384x64 .f32) (k : FVec Ideal S2x16384x64 .f32)
  (h : Fin 6) (n : Fin 64) (r : Fin 512) (s : Fin 32768)

theorem prepQ_nope (e : Fin 128) :
    prepQ a b (ix4 h n (⟨e.val, by omega⟩ : Fin 256) r)
      = a (ix4 (⟨n.val / 32, by omega⟩ : Fin 2) h (⟨n.val % 32 * 512 + r.val, by omega⟩ : Fin 16384) e) * scale2 := by
  pointwise [prepQ, scaleV, scale2]

theorem prepQ_rope (e : Fin 64) :
    prepQ a b (ix4 h n (⟨128 + e.val, by omega⟩ : Fin 256) r)
      = b (ix4 (⟨n.val / 32, by omega⟩ : Fin 2) h (⟨n.val % 32 * 512 + r.val, by omega⟩ : Fin 16384) e) * scale2 := by
  pointwise [prepQ, scaleV, scale2]

theorem prepK_nope (e : Fin 128) :
    prepK a k (ix3 h s (⟨e.val, by omega⟩ : Fin 256))
      = a (ix4 (⟨s.val / 16384, by omega⟩ : Fin 2) h (⟨s.val % 16384, by omega⟩ : Fin 16384) e) := by
  pointwise [prepK]

theorem prepK_rope (e : Fin 64) :
    prepK a k (ix3 h s (⟨128 + e.val, by omega⟩ : Fin 256))
      = k (ix3 (⟨s.val / 16384, by omega⟩ : Fin 2) (⟨s.val % 16384, by omega⟩ : Fin 16384) e) := by
  pointwise [prepK]

theorem prepK_zero (e : Fin 64) : prepK a k (ix3 h s (⟨192 + e.val, by omega⟩ : Fin 256)) = 0 := by
  pointwise [prepK]
  rw [dif_neg (by omega), dif_neg (by omega)]

theorem prepV_val (e : Fin 128) :
    prepV a (ix4 h n (⟨e.val, by omega⟩ : Fin 144) r)
      = a (ix4 (⟨n.val / 32, by omega⟩ : Fin 2) h (⟨n.val % 32 * 512 + r.val, by omega⟩ : Fin 16384) e) := by
  pointwise [prepV]

theorem prepV_one : prepV a (ix4 h n (128 : Fin 144) r) = 1 := by
  pointwise [prepV]

end Entries

end Cert.KernelIdeal.Attn

end
-- ==== Proof.AttnPoint.lean ====
module

public import proofs.«01_k».proof.Proof.AttnEntry
public import proofs.«01_k».proof.Proof.AttnHost
public import Idealize.ShloMosaic.Lib.Pipeline.ValueKit

@[expose] public section

set_option maxRecDepth 16384

noncomputable section

namespace Cert.AttnMath

/-- A mean taken over the positions in another order, or under other names. -/
theorem mean_equiv {κ κ' : Type*} [Fintype κ] [Fintype κ'] (e : κ ≃ κ') (x : κ' → ℝ) (v : κ' → EReal) :
    mean (fun p => x (e p)) (fun p => v (e p)) = mean x v := by
  unfold mean weight
  rw [Equiv.sum_comp e (fun j => Real.exp (x j))]
  exact Equiv.sum_comp e (fun k => ((Real.exp (x k) / ∑ j, Real.exp (x j) : ℝ) : EReal) * v k)

end Cert.AttnMath

namespace Cert.KernelIdeal.Attn

open Idealize.ShloMosaic Idealize.ShloMosaic.TcCoe
open Cert.KernelIdeal.Gen Cert.AttnMath

variable (qn : FVec Ideal S2x6x16384x128 .f32) (qr : FVec Ideal S2x6x16384x64 .f32)
  (kn : FVec Ideal S2x6x16384x128 .f32) (kr : FVec Ideal S2x16384x64 .f32) (v : FVec Ideal S2x6x16384x128 .f32)

/-- The scale of the scores, a real number. -/
def scale : ℝ := (Ideal.ofBits .f32 0x3D93CD3A#32).toReal

/-- The scaled score of query `s` against key `k`, head `h` of sequence `b`. -/
def rowScore (b : Fin 2) (h : Fin 6) (s k : Fin 16384) : ℝ :=
  ((∑ e : Fin 128, (qn (ix4 b h s e)).toReal * (kn (ix4 b h k e)).toReal)
    + ∑ e : Fin 64, (qr (ix4 b h s e)).toReal * (kr (ix3 b k e)).toReal) * scale

/-- The attention of head `h` of sequence `b` at query `s`, column `d`. -/
def attnAt (b : Fin 2) (h : Fin 6) (s : Fin 16384) (d : Fin 128) : EReal :=
  mean (rowScore qn qr kn kr b h s) (fun k => v (ix4 b h k d))

/-- The attention as the layer lays it out: the sequences one after another in the rows, the heads side by side. -/
def attn : FVec Ideal S32768x768 .bf16 := fun i =>
  attnAt qn qr kn kr v (⟨(i 0).val / 16384, by have : (i 0).val < 32768 := (i 0).isLt; omega⟩ : Fin 2)
    (⟨(i 1).val / 128, by have : (i 1).val < 768 := (i 1).isLt; omega⟩ : Fin 6)
    (⟨(i 0).val % 16384, by omega⟩ : Fin 16384) (⟨(i 1).val % 128, by omega⟩ : Fin 128)

/-- A value that is a real number. -/
def IsReal (x : EReal) : Prop := x = (x.toReal : EReal)

theorem scale_eq : Ideal.ofBits .f32 0x3D93CD3A#32 = (scale : EReal) := by
  obtain ⟨r, hr⟩ := ofBits_scale
  rw [scale, hr, EReal.toReal_coe]

theorem scale2_eq : scale2 = ((scale / Real.log 2 : ℝ) : EReal) := by
  have hl : Real.log 2 ≠ 0 := (Real.log_pos (by norm_num)).ne'
  have e : Ideal.log (Ideal.ofBits .f32 0x40000000#32) = ((Real.log 2 : ℝ) : EReal) := by
    rw [ofBits_two]
    show (if (2 : ℝ) ≤ 0 then (⊥ : EReal) else (Real.log 2 : EReal)) = _
    rw [if_neg (by norm_num)]
  rw [scale2, e, Ideal.div_coe hl, scale_eq, ← EReal.coe_mul]
  congr 1
  ring

/-- A sum over 256 positions in the three parts the queries and keys are laid in. -/
theorem sum_parts (f : Fin 256 → EReal) :
    ∑ e, f e = (∑ e : Fin 128, f ⟨e.val, by omega⟩) + ((∑ e : Fin 64, f ⟨128 + e.val, by omega⟩) + ∑ e : Fin 64, f ⟨192 + e.val, by omega⟩) := by
  have h1 := Fin.sum_univ_add (a := 128) (b := 128) f
  have h2 := Fin.sum_univ_add (a := 64) (b := 64) (fun e : Fin 128 => f (Fin.natAdd 128 e))
  rw [h1, h2]
  congr 2

/-- The laid-out queries against the laid-out keys: the score, to base two. -/
theorem score_sum (hqn : ∀ i, IsReal (qn i)) (hqr : ∀ i, IsReal (qr i)) (hkn : ∀ i, IsReal (kn i)) (hkr : ∀ i, IsReal (kr i))
    (b : Fin 2) (h : Fin 6) (s k : Fin 16384) (n : Fin 64) (r : Fin 512) (p : Fin 32768)
    (hn : n.val = b.val * 32 + s.val / 512) (hr : r.val = s.val % 512) (hp : p.val = b.val * 16384 + k.val) :
    ∑ e : Fin 256, prepK kn kr (ix3 h p e) * prepQ qn qr (ix4 h n e r)
      = ((rowScore qn qr kn kr b h s k / Real.log 2 : ℝ) : EReal) := by
  have eb : (⟨n.val / 32, by omega⟩ : Fin 2) = b := Fin.ext (by show n.val / 32 = b.val; omega)
  have es : (⟨n.val % 32 * 512 + r.val, by omega⟩ : Fin 16384) = s := Fin.ext (by show n.val % 32 * 512 + r.val = s.val; omega)
  have ebk : (⟨p.val / 16384, by omega⟩ : Fin 2) = b := Fin.ext (by show p.val / 16384 = b.val; omega)
  have ek : (⟨p.val % 16384, by omega⟩ : Fin 16384) = k := Fin.ext (by show p.val % 16384 = k.val; omega)
  rw [sum_parts]
  simp only [prepQ_nope, prepQ_rope, prepK_nope, prepK_rope, prepK_zero, zero_mul, Finset.sum_const_zero, add_zero, eb, es, ebk, ek, scale2_eq]
  have t1 : ∀ e : Fin 128, kn (ix4 b h k e) * (qn (ix4 b h s e) * ((scale / Real.log 2 : ℝ) : EReal))
      = (((qn (ix4 b h s e)).toReal * (kn (ix4 b h k e)).toReal * (scale / Real.log 2) : ℝ) : EReal) := fun e => by
    rw [hqn (ix4 b h s e), hkn (ix4 b h k e), ← EReal.coe_mul, ← EReal.coe_mul]
    simp only [EReal.toReal_coe]
    congr 1; ring
  have t2 : ∀ e : Fin 64, kr (ix3 b k e) * (qr (ix4 b h s e) * ((scale / Real.log 2 : ℝ) : EReal))
      = (((qr (ix4 b h s e)).toReal * (kr (ix3 b k e)).toReal * (scale / Real.log 2) : ℝ) : EReal) := fun e => by
    rw [hqr (ix4 b h s e), hkr (ix3 b k e), ← EReal.coe_mul, ← EReal.coe_mul]
    simp only [EReal.toReal_coe]
    congr 1; ring
  rw [Finset.sum_congr rfl (fun e _ => t1 e), Finset.sum_congr rfl (fun e _ => t2 e), ← coe_sum, ← coe_sum, ← EReal.coe_add,
    ← Finset.sum_mul, ← Finset.sum_mul]
  congr 1
  unfold rowScore
  ring

theorem ktile_apply (x4 : Vec Ideal S1x16384x256 .bf16) (t : ℕ) (r : Fin 512) (e : Fin 256) :
    ktile x4 t (ix3 (0 : Fin 1) r e) = x4 (ix3 (0 : Fin 1) (⟨512 * min t 31 + r.val, by have := min_le_right t 31; omega⟩ : Fin 16384) e) := by
  pointwise [ktile]

theorem vtile_apply (x5 : Vec Ideal S1x32x144x512 .bf16) (t : ℕ) (d : Fin 144) (r : Fin 512) :
    vtile x5 t (ix4 (0 : Fin 1) (0 : Fin 1) d r) = x5 (ix4 (0 : Fin 1) (⟨min t 31, by have := min_le_right t 31; omega⟩ : Fin 32) d r) := by
  pointwise [vtile]

theorem qtile_apply (x3 : Vec Ideal S1x2x256x512 .bf16) (i : Fin 2) (e : Fin 256) (r : Fin 512) :
    qtile x3 i (ix2 e r) = x3 (ix4 (0 : Fin 1) i e r) := by
  have hc : ∀ y : Vec Ideal S1x1x256x512 .bf16, shapeCast S256x512 y shapeCasts_S1x1x256x512_S256x512 (ix2 e r) = y (ix4 (0 : Fin 1) (0 : Fin 1) e r) := fun y => by
    pointwise []
  rw [qtile, hc, View.ld_apply]
  refine congrArg x3 (funext fun a => Fin.ext ?_)
  rw [Rect.idx_unit_val]
  fin_cases a <;> simp

/-- One half of a block: the attention at its queries. -/
theorem half_value (hqn : ∀ i, IsReal (qn i)) (hqr : ∀ i, IsReal (qr i)) (hkn : ∀ i, IsReal (kn i)) (hkr : ∀ i, IsReal (kr i))
    (b : Fin 2) (h : Fin 6) (j : Fin 16) (x3 : Vec Ideal S1x2x256x512 .bf16) (x4 : Vec Ideal S1x16384x256 .bf16) (x5 : Vec Ideal S1x32x144x512 .bf16)
    (h3 : ∀ (i : Fin 2) (e : Fin 256) (r : Fin 512), x3 (ix4 (0 : Fin 1) i e r) = prepQ qn qr (ix4 h (⟨2 * (b.val * 16 + j.val) + i.val, by omega⟩ : Fin 64) e r))
    (h4 : ∀ (k : Fin 16384) (e : Fin 256), x4 (ix3 (0 : Fin 1) k e) = prepK kn kr (ix3 h (⟨b.val * 16384 + k.val, by omega⟩ : Fin 32768) e))
    (h5 : ∀ (n : Fin 32) (d : Fin 144) (r : Fin 512), x5 (ix4 (0 : Fin 1) n d r) = prepV v (ix4 h (⟨b.val * 32 + n.val, by omega⟩ : Fin 64) d r))
    (i : Fin 2) (r : Fin 512) (d : Fin 128) (s : Fin 16384) (hs : s.val = j.val * 1024 + i.val * 512 + r.val) :
    finish (runAcc (qtile x3 i) (ktile x4) (vtile x5) 32) (ix2 r d) = attnAt qn qr kn kr v b h s d := by
  have hm : ∀ t, min t 31 ≤ 31 := fun t => min_le_right t 31
  rw [tile_value (qtile x3 i) (ktile x4) (vtile x5) r d
    (fun t u => rowScore qn qr kn kr b h s ⟨512 * min t 31 + u.val, by have := hm t; omega⟩)
    (fun t u => v (ix4 b h (⟨512 * min t 31 + u.val, by have := hm t; omega⟩ : Fin 16384) d))]
  · rw [attnAt, ← mean_equiv (finProdFinEquiv (m := 32) (n := 512))]
    have e : ∀ p : Fin 32 × Fin 512, (⟨512 * min p.1.val 31 + p.2.val, by have := hm p.1.val; omega⟩ : Fin 16384) = finProdFinEquiv p := fun p => Fin.ext (by
      show 512 * min p.1.val 31 + p.2.val = p.2.val + 512 * p.1.val
      have := p.1.isLt
      rw [min_eq_left (by omega)]; omega)
    simp only [e]
  · intro t u
    have := hm t
    rw [score_apply]
    simp only [ktile_apply, qtile_apply, h3, h4]
    refine score_sum qn qr kn kr hqn hqr hkn hkr b h s ⟨512 * min t 31 + u.val, by omega⟩ _ _ _ ?_ ?_ ?_
    · show 2 * (b.val * 16 + j.val) + i.val = b.val * 32 + s.val / 512
      omega
    · omega
    · rfl
  · intro t u
    have := hm t
    rw [vtile_apply, h5]
    refine (prepV_val v h _ u d).trans (congrArg v ?_)
    have e1 : (⟨(b.val * 32 + min t 31) / 32, by omega⟩ : Fin 2) = b := Fin.ext (by show (b.val * 32 + min t 31) / 32 = b.val; omega)
    have e2 : (⟨(b.val * 32 + min t 31) % 32 * 512 + u.val, by omega⟩ : Fin 16384) = ⟨512 * min t 31 + u.val, by omega⟩ :=
      Fin.ext (by show (b.val * 32 + min t 31) % 32 * 512 + u.val = 512 * min t 31 + u.val; omega)
    exact congrArg₂ (fun x y => ix4 x h y d) e1 e2
  · intro t u
    rw [vtile_apply, h5]
    exact prepV_one v h _ u

/-- The block a point leaves is the attention at the point's queries. -/
theorem block_value (hqn : ∀ i, IsReal (qn i)) (hqr : ∀ i, IsReal (qr i)) (hkn : ∀ i, IsReal (kn i)) (hkr : ∀ i, IsReal (kr i))
    (b : Fin 2) (h : Fin 6) (j : Fin 16) (x3 : Vec Ideal S1x2x256x512 .bf16) (x4 : Vec Ideal S1x16384x256 .bf16) (x5 : Vec Ideal S1x32x144x512 .bf16)
    (h3 : ∀ (i : Fin 2) (e : Fin 256) (r : Fin 512), x3 (ix4 (0 : Fin 1) i e r) = prepQ qn qr (ix4 h (⟨2 * (b.val * 16 + j.val) + i.val, by omega⟩ : Fin 64) e r))
    (h4 : ∀ (k : Fin 16384) (e : Fin 256), x4 (ix3 (0 : Fin 1) k e) = prepK kn kr (ix3 h (⟨b.val * 16384 + k.val, by omega⟩ : Fin 32768) e))
    (h5 : ∀ (n : Fin 32) (d : Fin 144) (r : Fin 512), x5 (ix4 (0 : Fin 1) n d r) = prepV v (ix4 h (⟨b.val * 32 + n.val, by omega⟩ : Fin 64) d r))
    (y : S1024x128.Idx) (s : Fin 16384) (hs : s.val = j.val * 1024 + (y 0).val) (d : Fin 128) (hd : d.val = (y 1).val) :
    outBlock x3 x4 x5 y = attnAt qn qr kn kr v b h s d := by
  unfold outBlock outPieces
  canon_tiles x hx
  · have ex : x = ix2 (⟨(x 0).val, x0_lt⟩ : Fin 512) d := by
      funext a; refine Fin.ext ?_; fin_cases a
      · rfl
      · exact (hx1.symm.trans hd.symm)
    rw [ex]
    exact half_value qn qr kn kr v hqn hqr hkn hkr b h j x3 x4 x5 h3 h4 h5 1 _ d s (by
      show s.val = j.val * 1024 + 1 * 512 + (x 0).val
      omega)
  · have ex : x = ix2 (⟨(x 0).val, x0_lt⟩ : Fin 512) d := by
      funext a; refine Fin.ext ?_; fin_cases a
      · rfl
      · exact (hx1.symm.trans hd.symm)
    rw [ex]
    exact half_value qn qr kn kr v hqn hqr hkn hkr b h j x3 x4 x5 h3 h4 h5 0 _ d s (by
      show s.val = j.val * 1024 + 0 * 512 + (x 0).val
      omega)

end Cert.KernelIdeal.Attn

end
-- ==== Proof.AttnValue.lean ====
module

public import proofs.«01_k».proof.Proof.AttnPoint

@[expose] public section

set_option maxRecDepth 16384

noncomputable section

namespace Cert.KernelIdeal.Attn

open Idealize.ShloMosaic Idealize.ShloMosaic.TcCoe
open Cert.KernelIdeal.Gen Cert.AttnMath
open Idealize.ShloMosaic.Pipeline (Dat Cfg Window)

variable (m : (ℓ : Loc nD τ sig) → Buf (Elt Ideal) ℓ)

/-- The blocks the four windows are at, point by point: the head, the sequence and the tile of queries from the point's number. -/
theorem idx : ∀ t : Fin cfg0.N,
    win0_0.index t = ![t.val / 16 % 6, t.val / 96 * 16 + t.val % 16, 0, 0]
    ∧ win0_1.index t = ![t.val / 16 % 6, t.val / 96, 0]
    ∧ win0_2.index t = ![t.val / 16 % 6, t.val / 96, 0, 0]
    ∧ win0_3.index t = ![t.val / 96 * 16 + t.val % 16, t.val / 16 % 6] :=
  (by decide +kernel : ∀ t : Fin grid0.N, _)

theorem points (t : Fin cfg0.N) : t.val < 192 := t.isLt

theorem block_q (c : Dev nD) (t : Fin cfg0.N) (i : Fin 2) (e : Fin 256) (r : Fin 512) :
    iblk m c 0 t (ix4 (0 : Fin 1) i e r)
      = V m c main_v17 (ix4 (⟨t.val / 16 % 6, by omega⟩ : Fin 6)
          (⟨2 * (t.val / 96 * 16 + t.val % 16) + i.val, by have := points t; omega⟩ : Fin 64) e r) := by
  blk_ext [iblk, idx t]

theorem block_k (c : Dev nD) (t : Fin cfg0.N) (k : Fin 16384) (e : Fin 256) :
    iblk m c 1 t (ix3 (0 : Fin 1) k e)
      = V m c main_v25 (ix3 (⟨t.val / 16 % 6, by omega⟩ : Fin 6)
          (⟨t.val / 96 * 16384 + k.val, by have := points t; omega⟩ : Fin 32768) e) := by
  blk_ext [iblk, idx t]

theorem block_v (c : Dev nD) (t : Fin cfg0.N) (n : Fin 32) (d : Fin 144) (r : Fin 512) :
    iblk m c 2 t (ix4 (0 : Fin 1) n d r)
      = V m c main_v32 (ix4 (⟨t.val / 16 % 6, by omega⟩ : Fin 6)
          (⟨t.val / 96 * 32 + n.val, by have := points t; omega⟩ : Fin 64) d r) := by
  blk_ext [iblk, idx t]

/-- What the kernel leaves in its result: the attention of the arguments. -/
theorem final (c : Dev nD)
    (hqn : ∀ i, IsReal (m ((c.tc : Thread nD τ).loc main_arg0) i)) (hqr : ∀ i, IsReal (m ((c.tc : Thread nD τ).loc main_arg1) i))
    (hkn : ∀ i, IsReal (m ((c.tc : Thread nD τ).loc main_arg2) i)) (hkr : ∀ i, IsReal (m ((c.tc : Thread nD τ).loc main_arg3) i)) :
    (dats m 0 c).arrAt 3 cfg0.N
      = attn (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) := by
  refine (dats m 0 c).arrAt_eq_of_covers 3 _ (by decide +kernel) fun t _ y => ?_
  blk_simp
  rw [after_3]
  have ht := points t
  have hy0 : (y 0).val < 1024 := (y 0).isLt
  have hy1 : (y 1).val < 128 := (y 1).isLt
  refine (block_value _ _ _ _ (m ((c.tc : Thread nD τ).loc main_arg4)) hqn hqr hkn hkr (⟨t.val / 96, by omega⟩ : Fin 2) (⟨t.val / 16 % 6, by omega⟩ : Fin 6) (⟨t.val % 16, by omega⟩ : Fin 16)
    _ _ _ ?_ ?_ ?_ y (⟨t.val % 16 * 1024 + (y 0).val, by omega⟩ : Fin 16384) rfl (⟨(y 1).val, hy1⟩ : Fin 128) rfl).trans ?_
  · intro i e r
    rw [block_q, V_Q]
  · intro k e
    rw [block_k, V_K]
  · intro n d r
    rw [block_v, V_V]
  · unfold attn
    have e0 : ((((cfg0.win 3).blk t).view.emb y) 0).val = (t.val / 96 * 16 + t.val % 16) * 1024 + (y 0).val := by
      blk_simp [idx t]
    have e1 : ((((cfg0.win 3).blk t).view.emb y) 1).val = t.val / 16 % 6 * 128 + (y 1).val := by
      blk_simp [idx t]
    congr 1 <;> refine Fin.ext ?_
    · show t.val / 96 = ((((cfg0.win 3).blk t).view.emb y) 0).val / 16384
      rw [e0]; omega
    · show t.val / 16 % 6 = ((((cfg0.win 3).blk t).view.emb y) 1).val / 128
      rw [e1]; omega
    · show t.val % 16 * 1024 + (y 0).val = ((((cfg0.win 3).blk t).view.emb y) 0).val % 16384
      rw [e0]; omega
    · show (y 1).val = ((((cfg0.win 3).blk t).view.emb y) 1).val % 128
      rw [e1]; omega

end Cert.KernelIdeal.Attn

end
-- ==== Proof.AttnRef.lean ====
module

public import proofs.«01_k».proof.Proof.AttnPoint
public import proofs.«01_k».proof.Proof.Gen.ReferenceIdeal

@[expose] public section

set_option maxRecDepth 16384

noncomputable section

namespace Cert.ReferenceIdeal.Attn

open Idealize.ShloMosaic Idealize.ShloMosaic.TcCoe
open Cert.ReferenceIdeal Cert.ReferenceIdeal.Gen Cert.AttnMath
open Cert.KernelIdeal.Attn (IsReal rowScore attnAt attn scale_eq ofBits_neg_inf)

/-- The scaled scores. -/
def scores (qn : FVec Ideal S2x6x16384x128 .f32) (qr : FVec Ideal S2x6x16384x64 .f32) (kn : FVec Ideal S2x6x16384x128 .f32)
    (kr : FVec Ideal S2x16384x64 .f32) : FVec Ideal S2x6x16384x16384 .f32 :=
  mulf (addf (Host.dotGeneral dot_S2x6x16384x128_S2x6x16384x128_S2x6x16384x16384_3_3_2_2_01_01 none qn kn)
      (Host.dotGeneral dot_S2x6x16384x64_S2x16384x64_S2x6x16384x16384_3_2_12_1_0_0 none qr kr))
    (broadcastInDim S2x6x16384x16384 ![] bcast_S_S2x6x16384x16384 (constant S_ .f32 0x3D93CD3A#32))

/-- Each query's largest score. -/
def peaks (x : FVec Ideal S2x6x16384x16384 .f32) : FVec Ideal S2x6x16384 .f32 :=
  maximumf (broadcastInDim S2x6x16384 ![] bcast_S_S2x6x16384 (constant S_ .f32 0xFF800000#32))
    (Host.reduce FloatOps.maximumf x (constant S_ .f32 0xFF800000#32) reducesTo_S2x6x16384x16384_S2x6x16384_d3 h_S_)

/-- A value of each query repeated along the keys. -/
def along (y : FVec Ideal S2x6x16384 .f32) : FVec Ideal S2x6x16384x16384 .f32 :=
  broadcastInDim S2x6x16384x16384 ![0, 1, 2, 3] bcast_S2x6x16384x1_S2x6x16384x16384_0_1_2_3
    (broadcastInDim S2x6x16384x1 ![0, 1, 2] bcast_S2x6x16384_S2x6x16384x1_0_1_2 y)

/-- The exponentials under the largest score. -/
def exps (x : FVec Ideal S2x6x16384x16384 .f32) : FVec Ideal S2x6x16384x16384 .f32 := Host.exp (subf x (along (peaks x)))

/-- The exponentials divided by their sums. -/
def probs (e : FVec Ideal S2x6x16384x16384 .f32) : FVec Ideal S2x6x16384x16384 .f32 :=
  Host.divf e (along (Host.reduceAdd e (constant S_ .f32 0x00000000#32) reducesTo_S2x6x16384x16384_S2x6x16384_d3 h_S_))

/-- The weighted values, laid out. -/
def laid (p : FVec Ideal S2x6x16384x16384 .f32) (v : FVec Ideal S2x6x16384x128 .f32) : FVec Ideal S32768x768 .bf16 :=
  truncf .bf16 (shapeCast _ (transpose S2x16384x6x128 [0, 2, 1, 3]
    (Host.dotGeneral dot_S2x6x16384x16384_S2x6x16384x128_S2x6x16384x128_3_2_2_3_01_01 none p v)
    transposes_S2x6x16384x128_S2x16384x6x128_0_2_1_3) shapeCasts_S2x16384x6x128_S32768x768) bitsLt_bf16_f32

theorem laid_apply (p : FVec Ideal S2x6x16384x16384 .f32) (v : FVec Ideal S2x6x16384x128 .f32) (R : Fin 32768) (C : Fin 768) :
    laid p v (ix2 R C) = ∑ k : Fin 16384, p (ix4 (⟨R.val / 16384, by omega⟩ : Fin 2) (⟨C.val / 128, by omega⟩ : Fin 6) (⟨R.val % 16384, by omega⟩ : Fin 16384) k)
      * v (ix4 (⟨R.val / 16384, by omega⟩ : Fin 2) (⟨C.val / 128, by omega⟩ : Fin 6) k (⟨C.val % 128, by omega⟩ : Fin 128)) := by
  pointwise [laid]

theorem along_apply (y : FVec Ideal S2x6x16384 .f32) (b : Fin 2) (h : Fin 6) (s k : Fin 16384) : along y (ix4 b h s k) = y (ix3 b h s) := by
  pointwise [along]

theorem scores_apply (qn : FVec Ideal S2x6x16384x128 .f32) (qr : FVec Ideal S2x6x16384x64 .f32) (kn : FVec Ideal S2x6x16384x128 .f32)
    (kr : FVec Ideal S2x16384x64 .f32) (b : Fin 2) (h : Fin 6) (s k : Fin 16384) :
    scores qn qr kn kr (ix4 b h s k) = ((∑ e : Fin 128, qn (ix4 b h s e) * kn (ix4 b h k e)) + ∑ e : Fin 64, qr (ix4 b h s e) * kr (ix3 b k e))
      * Ideal.ofBits .f32 0x3D93CD3A#32 := by
  pointwise [scores]

/-- A maximum over the last of four axes, of any extents. -/
theorem max_last {a b c d : ℕ} (x : FVec Ideal ⟨4, ![a, b, c, d]⟩ .f32) (y : FVec Ideal S_ .f32)
    (hr : (⟨4, ![a, b, c, d]⟩ : Shape).ReducesTo [3] ⟨3, ![a, b, c]⟩) (hu : 0 < S_.numel) (i : Fin a) (j : Fin b) (k : Fin c) :
    Host.reduce FloatOps.maximumf x y hr hu (ix3 i j k) = Finset.univ.fold max (y (Shape.Idx.first hu)) fun l : Fin d => x (ix4 i j k l) := by
  simp only [pointwise]

theorem max_entry {s : Shape} (x y : FVec Ideal s .f32) (i : s.Idx) : maximumf x y i = max (x i : EReal) (y i) := rfl

theorem start_entry (i : S_.Idx) : (constant S_ .f32 0xFF800000#32 : FVec Ideal S_ .f32) i = (⊥ : EReal) := ofBits_neg_inf

theorem start_entries (i : S2x6x16384.Idx) :
    (broadcastInDim S2x6x16384 ![] bcast_S_S2x6x16384 (constant S_ .f32 0xFF800000#32) : FVec Ideal S2x6x16384 .f32) i = (⊥ : EReal) := ofBits_neg_inf

theorem peaks_apply (x : FVec Ideal S2x6x16384x16384 .f32) (b : Fin 2) (h : Fin 6) (s : Fin 16384) :
    peaks x (ix3 b h s) = max (⊥ : EReal) (Finset.univ.fold max (⊥ : EReal) fun k : Fin 16384 => x (ix4 b h s k)) := by
  unfold peaks
  rw [max_entry, start_entries, max_last, start_entry]

theorem probs_apply (e : FVec Ideal S2x6x16384x16384 .f32) (b : Fin 2) (h : Fin 6) (s k : Fin 16384) :
    probs e (ix4 b h s k) = Ideal.div (e (ix4 b h s k)) (∑ j : Fin 16384, e (ix4 b h s j)) := by
  pointwise [probs, along]

/-- The reference computes the attention. -/
theorem reference_value (qn : FVec Ideal S2x6x16384x128 .f32) (qr : FVec Ideal S2x6x16384x64 .f32) (kn : FVec Ideal S2x6x16384x128 .f32)
    (kr : FVec Ideal S2x16384x64 .f32) (v : FVec Ideal S2x6x16384x128 .f32)
    (hqn : ∀ i, IsReal (qn i)) (hqr : ∀ i, IsReal (qr i)) (hkn : ∀ i, IsReal (kn i)) (hkr : ∀ i, IsReal (kr i)) :
    laid (probs (exps (scores qn qr kn kr))) v = attn qn qr kn kr v := by
  have hs : ∀ (b : Fin 2) (h : Fin 6) (s k : Fin 16384), scores qn qr kn kr (ix4 b h s k) = ((rowScore qn qr kn kr b h s k : ℝ) : EReal) := by
    intro b h s k
    rw [scores_apply, scale_eq]
    have t1 : ∀ e : Fin 128, qn (ix4 b h s e) * kn (ix4 b h k e) = (((qn (ix4 b h s e)).toReal * (kn (ix4 b h k e)).toReal : ℝ) : EReal) := fun e => by
      rw [EReal.coe_mul, ← hqn (ix4 b h s e), ← hkn (ix4 b h k e)]
    have t2 : ∀ e : Fin 64, qr (ix4 b h s e) * kr (ix3 b k e) = (((qr (ix4 b h s e)).toReal * (kr (ix3 b k e)).toReal : ℝ) : EReal) := fun e => by
      rw [EReal.coe_mul, ← hqr (ix4 b h s e), ← hkr (ix3 b k e)]
    rw [Finset.sum_congr rfl (fun e _ => t1 e), Finset.sum_congr rfl (fun e _ => t2 e), ← coe_sum, ← coe_sum, ← EReal.coe_add, ← EReal.coe_mul]
    rfl
  funext i
  have hi : i = ix2 (i 0) (i 1) := by funext a; fin_cases a <;> rfl
  rw [hi]
  generalize i 0 = R
  generalize i 1 = C
  refine (laid_apply _ v R C).trans ?_
  show _ = attnAt qn qr kn kr v (⟨R.val / 16384, by have : R.val < 32768 := R.isLt; omega⟩ : Fin 2)
    (⟨C.val / 128, by have : C.val < 768 := C.isLt; omega⟩ : Fin 6) (⟨R.val % 16384, by omega⟩ : Fin 16384) (⟨C.val % 128, by omega⟩ : Fin 128)
  generalize (⟨R.val / 16384, by have : R.val < 32768 := R.isLt; omega⟩ : Fin 2) = b
  generalize (⟨C.val / 128, by have : C.val < 768 := C.isLt; omega⟩ : Fin 6) = h
  generalize (⟨R.val % 16384, by omega⟩ : Fin 16384) = s
  generalize (⟨C.val % 128, by omega⟩ : Fin 128) = d
  obtain ⟨M, hM⟩ := fold_max_real (fun k : Fin 16384 => rowScore qn qr kn kr b h s k)
  have hp : peaks (scores qn qr kn kr) (ix3 b h s) = (M : EReal) := by
    rw [peaks_apply]
    simp only [hs]
    rw [hM]
    exact max_eq_right bot_le
  have he : ∀ k : Fin 16384, exps (scores qn qr kn kr) (ix4 b h s k)
      = Ideal.exp ((rowScore qn qr kn kr b h s k : EReal) - (M : EReal)) := fun k => by
    show Ideal.exp (scores qn qr kn kr (ix4 b h s k) - along (peaks (scores qn qr kn kr)) (ix4 b h s k)) = _
    rw [along_apply, hp, hs]
  rw [attnAt, ← softmax_row (rowScore qn qr kn kr b h s) (fun k => v (ix4 b h k d)) M]
  simp only [probs_apply, he]

end Cert.ReferenceIdeal.Attn

end
-- ==== Proof.AttnFinite.lean ====
module

public import proofs.«01_k».proof.Pre_finite
public import proofs.«01_k».proof.Proof.AttnPoint
public import Idealize.ShloMosaic.Lib.ReduceAll
public import Idealize.ShloMosaic.Lib.Pointwise

@[expose] public section

noncomputable section

namespace Cert.Finite

open Idealize.ShloMosaic Cert.KernelIdeal.Attn

/-- The facts the precondition's operations take. -/
instance facts : Cert.Pre_finite.Facts := by
  constructor <;> decide +kernel

instance : Subsingleton Cert.Pre_finite.S_.Idx := ⟨fun a b => funext fun i => i.elim0⟩

theorem cmp_lt (x y : EReal) : Idealize.ShloMosaic.Ideal.cmp .olt x y = 1#1 ↔ x < y := by
  show BitVec.ofBool (decide (x < y)) = 1#1 ↔ x < y
  by_cases h : x < y <;> simp [h]

theorem isReal_of_lt (x : EReal) (h : max x (-x) < ⊤) : IsReal x := by
  induction x using EReal.rec with
  | bot => simp at h
  | coe r => exact (congrArg _ (EReal.toReal_coe r)).symm
  | top => simp at h

/-- Where the precondition holds, the first four arguments are real numbers. -/
theorem real (a0 : FVec Ideal Cert.Pre_finite.S2x6x16384x128 .f32) (a1 : FVec Ideal Cert.Pre_finite.S2x6x16384x64 .f32)
    (a2 : FVec Ideal Cert.Pre_finite.S2x6x16384x128 .f32) (a3 : FVec Ideal Cert.Pre_finite.S2x16384x64 .f32)
    (a4 : FVec Ideal Cert.Pre_finite.S2x6x16384x128 .f32) (h : Cert.Pre_finite.fn (F := Ideal) a0 a1 a2 a3 a4 = fun _ => 1#1) :
    (∀ i, IsReal (a0 i)) ∧ (∀ i, IsReal (a1 i)) ∧ (∀ i, IsReal (a2 i)) ∧ ∀ i, IsReal (a3 i) := by
  have h' := congrFun h (fun i => i.elim0)
  unfold Cert.Pre_finite.fn Cert.Pre_finite.fn_part1 at h'
  simp only [andi_apply] at h'
  obtain ⟨h', e3⟩ := IntOp.andi_eq_one.mp h'
  obtain ⟨h', e2⟩ := IntOp.andi_eq_one.mp h'
  obtain ⟨e0, e1⟩ := IntOp.andi_eq_one.mp h'
  have key : ∀ x : EReal, Idealize.ShloMosaic.Ideal.cmp .olt (max x (-x)) (Ideal.ofBits .f32 0x7F800000#32) = 1#1 → IsReal x := fun x hx =>
    isReal_of_lt x (ofBits_inf ▸ (cmp_lt _ _).mp hx)
  exact ⟨fun i => key _ (Host.reduce_andi_all _ _ _ _ _ e0 i), fun i => key _ (Host.reduce_andi_all _ _ _ _ _ e1 i),
    fun i => key _ (Host.reduce_andi_all _ _ _ _ _ e2 i), fun i => key _ (Host.reduce_andi_all _ _ _ _ _ e3 i)⟩

end Cert.Finite

end
-- ==== Proof.FfnPoint.lean ====
module

public import proofs.«01_k».proof.Proof.AttnMath
public import proofs.«01_k».proof.Proof.Gen.Kernel2Ideal.Value
public import proofs.«01_k».proof.Proof.Gen.Reference2Ideal
public import Idealize.ShloMosaic.Lib.Pipeline.ValueKit

@[expose] public section

set_option maxRecDepth 16384

noncomputable section

namespace Cert.Kernel2Ideal.Ffn

open Idealize.ShloMosaic Idealize.ShloMosaic.TcCoe Idealize.ShloMosaic.StableHlo
open Cert.Kernel2Ideal Cert.Kernel2Ideal.Gen Cert.Kernel2Ideal.Value Cert.AttnMath

variable (x h : FVec Ideal S2x16384x2048 .f32) (w1 : FVec Ideal S2048x8192 .f32) (w2 : FVec Ideal S8192x2048 .f32)

/-- Unit `f` of the hidden layer at position `s` of sequence `b`, before squaring. -/
def unitAt (b : Fin 2) (s : Fin 16384) (f : Fin 8192) : EReal := max (∑ e : Fin 2048, h (ix3 b s e) * w1 (ix2 e f)) (0 : EReal)

/-- Column `d` of the layer's result at position `s` of sequence `b`. -/
def ffnAt (b : Fin 2) (s : Fin 16384) (d : Fin 2048) : EReal :=
  x (ix3 b s d) + ∑ f : Fin 8192, unitAt h w1 b s f * unitAt h w1 b s f * w2 (ix2 f d)

/-- The layer's result, positions in one row order. -/
def ffn : FVec Ideal S32768x2048 .f32 := fun i => ffnAt x h w1 w2 (⟨(i 0).val / 16384, by have : (i 0).val < 32768 := (i 0).isLt; omega⟩ : Fin 2)
  (⟨(i 0).val % 16384, by omega⟩ : Fin 16384) (⟨(i 1).val, (i 1).isLt⟩ : Fin 2048)

/-- What one chunk of hidden units adds. -/
theorem pay2_apply (a : FVec Ideal S512x2048 .bf16) (u : FVec Ideal S2048x2048 .bf16) (acc : FVec Ideal S512x2048 .f32)
    (w : FVec Ideal S2048x2048 .bf16) (p : Fin 512) (q : Fin 2048) :
    k0_pay2 a u acc w (ix2 p q) = (acc (ix2 p q) : EReal) + ∑ f : Fin 2048,
      max (∑ e : Fin 2048, (a (ix2 p e) : EReal) * u (ix2 e f)) (0 : EReal) * max (∑ e : Fin 2048, (a (ix2 p e) : EReal) * u (ix2 e f)) (0 : EReal) * w (ix2 f q) := by
  pointwise [k0_pay2]

theorem pay1_apply (y : FVec Ideal S512x2048 .f32) (p : Fin 512) (q : Fin 2048) : k0_pay1 y (ix2 p q) = y (ix2 p q) := by
  pointwise [k0_pay1]

section Entry

variable {F : FTy → Type} [FloatOps F]
variable (m : (ℓ : Loc nD τ sig) → Buf (Elt F) ℓ) (c : Dev nD)

theorem V_x : V m c main_v0 = shapeCast S32768x2048 (m ((c.tc : Thread nD τ).loc main_arg0)) shapeCasts_S2x16384x2048_S32768x2048 := by
  unfold V hostOps0
  after_results <;> rfl

theorem V_h : V m c main_v2 = (truncf .bf16 (shapeCast S32768x2048 (m ((c.tc : Thread nD τ).loc main_arg1)) shapeCasts_S2x16384x2048_S32768x2048) bitsLt_bf16_f32 : FVec F S32768x2048 .bf16) := by
  unfold V hostOps0
  after_results <;> rfl

theorem V_w1 : V m c main_v3 = (truncf .bf16 (m ((c.tc : Thread nD τ).loc main_arg2)) bitsLt_bf16_f32 : FVec F S2048x8192 .bf16) := by
  unfold V hostOps0
  after_results <;> rfl

theorem V_w2 : V m c main_v4 = (truncf .bf16 (m ((c.tc : Thread nD τ).loc main_arg3)) bitsLt_bf16_f32 : FVec F S8192x2048 .bf16) := by
  unfold V hostOps0
  after_results <;> rfl

end Entry

theorem rows_apply (y : FVec Ideal S2x16384x2048 .f32) (R : Fin 32768) (d : Fin 2048) :
    (shapeCast S32768x2048 y shapeCasts_S2x16384x2048_S32768x2048 : FVec Ideal S32768x2048 .f32) (ix2 R d)
      = y (ix3 (⟨R.val / 16384, by omega⟩ : Fin 2) (⟨R.val % 16384, by omega⟩ : Fin 16384) d) := by
  pointwise []

/-- Where the windows sit. -/
theorem idx : ∀ t : Fin cfg0.N, win0_0.index t = ![t.val / 4, 0] ∧ win0_1.index t = ![t.val / 4, 0]
    ∧ win0_2.index t = ![0, t.val % 4] ∧ win0_3.index t = ![t.val % 4, 0] :=
  (by decide +kernel : ∀ t : Fin grid0.N, _)

variable (m : (ℓ : Loc nD τ sig) → Buf (Elt Ideal) ℓ) (c : Dev nD)

theorem blk_x (t : Fin cfg0.N) (p : Fin 512) (q : Fin 2048) (R : Fin 32768) (hR : R.val = t.val / 4 * 512 + p.val) :
    (iblk m c 0 t : FVec Ideal S512x2048 .f32) (ix2 p q) = (V m c main_v0 : FVec Ideal S32768x2048 .f32) (ix2 R q) := by
  blk_ext [iblk, idx t]

theorem blk_h (t : Fin cfg0.N) (p : Fin 512) (q : Fin 2048) (R : Fin 32768) (hR : R.val = t.val / 4 * 512 + p.val) :
    (iblk m c 1 t : FVec Ideal S512x2048 .bf16) (ix2 p q) = (V m c main_v2 : FVec Ideal S32768x2048 .bf16) (ix2 R q) := by
  blk_ext [iblk, idx t]

theorem blk_w1 (t : Fin cfg0.N) (e f : Fin 2048) (k : Fin 8192) (hk : k.val = t.val % 4 * 2048 + f.val) :
    (iblk m c 2 t : FVec Ideal S2048x2048 .bf16) (ix2 e f) = (V m c main_v3 : FVec Ideal S2048x8192 .bf16) (ix2 e k) := by
  blk_ext [iblk, idx t]

theorem blk_w2 (t : Fin cfg0.N) (f d : Fin 2048) (k : Fin 8192) (hk : k.val = t.val % 4 * 2048 + f.val) :
    (iblk m c 3 t : FVec Ideal S2048x2048 .bf16) (ix2 f d) = (V m c main_v4 : FVec Ideal S8192x2048 .bf16) (ix2 k d) := by
  blk_ext [iblk, idx t]

end Cert.Kernel2Ideal.Ffn

namespace Cert.Reference2Ideal.Ffn

open Idealize.ShloMosaic Idealize.ShloMosaic.TcCoe Cert.Reference2Ideal Cert.Reference2Ideal.Gen
open Cert.Kernel2Ideal.Ffn (ffn ffnAt unitAt)

/-- The hidden layer before squaring. -/
def units (h : FVec Ideal S2x16384x2048 .f32) (w1 : FVec Ideal S2048x8192 .f32) : FVec Ideal S2x16384x8192 .f32 :=
  maximumf (Host.dotGeneral dot_S2x16384x2048_S2048x8192_S2x16384x8192_2_0_01_1_n_n none h w1) (broadcastInDim S2x16384x8192 ![] bcast_S_S2x16384x8192 (constant S_ .f32 0x00000000#32))

theorem units_apply (h : FVec Ideal S2x16384x2048 .f32) (w1 : FVec Ideal S2048x8192 .f32) (b : Fin 2) (s : Fin 16384) (f : Fin 8192) :
    units h w1 (ix3 b s f) = unitAt h w1 b s f := by
  unfold unitAt
  pointwise [units]

theorem reference_value (x h : FVec Ideal S2x16384x2048 .f32) (w1 : FVec Ideal S2048x8192 .f32) (w2 : FVec Ideal S8192x2048 .f32) :
    shapeCast S32768x2048 (addf x (Host.dotGeneral dot_S2x16384x8192_S8192x2048_S2x16384x2048_2_0_01_1_n_n none (mulf (units h w1) (units h w1)) w2))
      shapeCasts_S2x16384x2048_S32768x2048 = ffn x h w1 w2 := by
  funext i
  have hi : i = ix2 (i 0) (i 1) := by funext a; fin_cases a <;> rfl
  rw [hi]
  generalize i 0 = R
  generalize i 1 = C
  refine (Cert.Kernel2Ideal.Ffn.rows_apply _ R C).trans ?_
  show _ = ffnAt x h w1 w2 (⟨R.val / 16384, by have : R.val < 32768 := R.isLt; omega⟩ : Fin 2) (⟨R.val % 16384, by omega⟩ : Fin 16384) C
  generalize (⟨R.val / 16384, by have : R.val < 32768 := R.isLt; omega⟩ : Fin 2) = b
  generalize (⟨R.val % 16384, by omega⟩ : Fin 16384) = s
  unfold ffnAt
  simp only [← units_apply]
  pointwise []

end Cert.Reference2Ideal.Ffn

end
-- ==== Proof.FfnValue.lean ====
module

public import proofs.«01_k».proof.Proof.FfnPoint

@[expose] public section

set_option maxRecDepth 16384

noncomputable section

namespace Cert.Kernel2Ideal.Ffn

open Idealize.ShloMosaic Idealize.ShloMosaic.TcCoe
open Cert.Kernel2Ideal Cert.Kernel2Ideal.Gen Cert.Kernel2Ideal.Value Cert.AttnMath

variable (m : (ℓ : Loc nD τ sig) → Buf (Elt Ideal) ℓ) (c : Dev nD)

/-- The arguments, at their types. -/
abbrev argX : FVec Ideal S2x16384x2048 .f32 := m ((c.tc : Thread nD τ).loc main_arg0)
abbrev argH : FVec Ideal S2x16384x2048 .f32 := m ((c.tc : Thread nD τ).loc main_arg1)
abbrev argW1 : FVec Ideal S2048x8192 .f32 := m ((c.tc : Thread nD τ).loc main_arg2)
abbrev argW2 : FVec Ideal S8192x2048 .f32 := m ((c.tc : Thread nD τ).loc main_arg3)

/-- Hidden unit `r` of chunk `u`. -/
def hid (u : Fin 4) (r : Fin 2048) : Fin 8192 := ⟨u.val * 2048 + r.val, by omega⟩

/-- What chunk `u` adds to column `d` of one position. -/
def chunk (b : Fin 2) (s : Fin 16384) (d : Fin 2048) (u : Fin 4) : EReal :=
  ∑ r : Fin 2048, unitAt (argH m c) (argW1 m c) b s (hid u r) * unitAt (argH m c) (argW1 m c) b s (hid u r) * argW2 m c (ix2 (hid u r) d)

theorem chunks (b : Fin 2) (s : Fin 16384) (d : Fin 2048) :
    argX m c (ix3 b s d) + chunk m c b s d 0 + chunk m c b s d 1 + chunk m c b s d 2 + chunk m c b s d 3
      = ffnAt (argX m c) (argH m c) (argW1 m c) (argW2 m c) b s d := by
  unfold ffnAt
  have e := sum_tiles (n := 4) (b := 2048) (fun f : Fin 8192 =>
    unitAt (argH m c) (argW1 m c) b s f * unitAt (argH m c) (argW1 m c) b s f * argW2 m c (ix2 f d))
  have k : ∀ (u : Fin 4) (r : Fin 2048), (finProdFinEquiv (u, r) : Fin 8192) = hid u r := fun u r => by
    apply Fin.ext
    show r.val + 2048 * u.val = u.val * 2048 + r.val
    omega
  simp only [k] at e
  refine Eq.trans ?_ (congrArg (fun z => argX m c (ix3 b s d) + z) e.symm)
  show _ = argX m c (ix3 b s d) + ∑ u : Fin 4, chunk m c b s d u
  rw [Fin.sum_univ_four]
  simp only [add_assoc]

/-- What point `n` adds, on the entry `R` of the arrays that its block's entry `p` sits at. -/
theorem step_apply (n : ℕ) (hn : n < cfg0.N) (acc : FVec Ideal S512x2048 .f32) (p : Fin 512) (d : Fin 2048) (R : Fin 32768) (u : Fin 4)
    (hR : R.val = n / 4 * 512 + p.val) (hu : n % 4 = u.val) :
    k0_pay2 (iblk m c 1 ⟨n, hn⟩) (iblk m c 2 ⟨n, hn⟩) acc (iblk m c 3 ⟨n, hn⟩) (ix2 p d)
      = (acc (ix2 p d) : EReal) + chunk m c (⟨R.val / 16384, by omega⟩ : Fin 2) (⟨R.val % 16384, by omega⟩ : Fin 16384) d u := by
  have hh : ∀ e : Fin 2048, (iblk m c 1 ⟨n, hn⟩ : FVec Ideal S512x2048 .bf16) (ix2 p e)
      = argH m c (ix3 (⟨R.val / 16384, by omega⟩ : Fin 2) (⟨R.val % 16384, by omega⟩ : Fin 16384) e) := fun e => by
    rw [blk_h m c ⟨n, hn⟩ p e R hR, V_h]
    exact rows_apply _ R e
  have h1 : ∀ e f : Fin 2048, (iblk m c 2 ⟨n, hn⟩ : FVec Ideal S2048x2048 .bf16) (ix2 e f) = argW1 m c (ix2 e (hid u f)) := fun e f => by
    rw [blk_w1 m c ⟨n, hn⟩ e f (hid u f) (by show u.val * 2048 + f.val = _; rw [← hu]), V_w1]
    rfl
  have h2 : ∀ f : Fin 2048, (iblk m c 3 ⟨n, hn⟩ : FVec Ideal S2048x2048 .bf16) (ix2 f d) = argW2 m c (ix2 (hid u f) d) := fun f => by
    rw [blk_w2 m c ⟨n, hn⟩ f d (hid u f) (by show u.val * 2048 + f.val = _; rw [← hu]), V_w2]
    rfl
  refine (pay2_apply (iblk m c 1 ⟨n, hn⟩) (iblk m c 2 ⟨n, hn⟩) acc (iblk m c 3 ⟨n, hn⟩) p d).trans ?_
  simp only [hh, h1, h2]
  rfl

/-- Before the first chunk a block holds the residual stream. -/
theorem first_apply (n : ℕ) (hn : n < cfg0.N) (p : Fin 512) (d : Fin 2048) (R : Fin 32768) (hR : R.val = n / 4 * 512 + p.val) :
    (k0_pay1 (iblk m c 0 ⟨n, hn⟩) (ix2 p d) : EReal)
      = argX m c (ix3 (⟨R.val / 16384, by omega⟩ : Fin 2) (⟨R.val % 16384, by omega⟩ : Fin 16384) d) := by
  refine (pay1_apply (iblk m c 0 ⟨n, hn⟩) p d).trans ?_
  rw [blk_x m c ⟨n, hn⟩ p d R hR, V_x]
  exact rows_apply _ R d

/-- The four points of a run leave the layer's result in their block. -/
theorem run_apply (b : ℕ) (hb : b + 3 < cfg0.N) (p : Fin 512) (d : Fin 2048) (R : Fin 32768) (hR : R.val = b / 4 * 512 + p.val) (h4 : b % 4 = 0) :
    Pipeline.accAt (reset4 m c) (step4 m c) b 3 hb (ix2 p d)
      = ffnAt (argX m c) (argH m c) (argW1 m c) (argW2 m c) (⟨R.val / 16384, by omega⟩ : Fin 2) (⟨R.val % 16384, by omega⟩ : Fin 16384) d := by
  simp only [Pipeline.accAt_succ, Pipeline.accAt_zero, Nat.zero_add]
  unfold step4 reset4
  rw [step_apply m c (b + (2 + 1)) _ _ p d R 3 (by omega) (by show (b + (2 + 1)) % 4 = 3; omega),
    step_apply m c (b + (1 + 1)) _ _ p d R 2 (by omega) (by show (b + (1 + 1)) % 4 = 2; omega),
    step_apply m c (b + 1) _ _ p d R 1 (by omega) (by show (b + 1) % 4 = 1; omega),
    step_apply m c b _ _ p d R 0 (by omega) (by show b % 4 = 0; omega),
    first_apply m c b _ p d R (by omega)]
  exact chunks m c _ _ _

/-- The call leaves the layer's result. -/
theorem result : G4 m c = ffn (argX m c) (argH m c) (argW1 m c) (argW2 m c) := by
  funext i
  have h0 : (i 0).val < 32768 := (i 0).isLt
  have h1 : (i 1).val < 2048 := (i 1).isLt
  have hN : cfg0.N = 256 := N_0
  have hrun : run4Of i = (i 0).val / 512 := by
    show 1 * ((i 0).val / 512 - 0) + 1 * ((i 1).val / 2048 - 0) = _
    omega
  unfold G4
  rw [dif_pos (by rw [hrun, hN]; omega)]
  have hl : loc4Of i = ix2 (⟨(i 0).val % 512, by omega⟩ : Fin 512) (⟨(i 1).val, h1⟩ : Fin 2048) := by
    funext a
    apply Fin.ext
    match a with
    | ⟨0, _⟩ => rfl
    | ⟨1, _⟩ => exact Nat.mod_eq_of_lt h1
  rw [hl]
  exact run_apply m c (4 * run4Of i) _ _ _ (⟨(i 0).val, h0⟩ : Fin 32768)
    (by show (i 0).val = 4 * run4Of i / 4 * 512 + (i 0).val % 512; rw [hrun]; omega) (by omega)

end Cert.Kernel2Ideal.Ffn

end
-- ==== Proof.OutPoint.lean ====
/- The output projection, entry by entry: what its body leaves in a block, as a function of the blocks it reads. -/
module

public import proofs.«01_k».proof.Proof.AttnMath
public import proofs.«01_k».proof.Proof.Gen.Kernel3Ideal.Frame
public import Idealize.ShloMosaic.Lib.Pipeline.ValueKit
public import Idealize.ShloMosaic.Lib.IdealHost

@[expose] public section

set_option maxRecDepth 16384

noncomputable section

namespace Cert.Kernel3Ideal.Out

open Idealize.ShloMosaic Idealize.ShloMosaic.TcCoe Idealize.ShloMosaic.StableHlo
open Cert.Kernel3Ideal Cert.Kernel3Ideal.Gen

/-- The number added to a mean square before its root is taken. -/
def eps : EReal := Ideal.ofBits .f32 0x358637BD#32

/-- Entry `k` of a row divided by the root of its mean square, `r` being one over its length, then multiplied by a gain. -/
def rmsAt {n : ℕ} (r : EReal) (f : Fin n → EReal) (g : EReal) (k : Fin n) : EReal :=
  f k * Ideal.rsqrt ((∑ j : Fin n, f j * f j) * r + eps) * g

/-- One over the width of a head. -/
def r128 : EReal := Ideal.ofBits .f32 0x3C000000#32
/-- One over the width of the model. -/
def r2048 : EReal := Ideal.ofBits .f32 0x3A000000#32

/-- Dividing by the width is multiplying by one over it. -/
theorem div_128 (x : EReal) : Ideal.div x (Ideal.ofBits .f32 0x43000000#32) = x * r128 := by
  have h1 : Ideal.ofBits .f32 0x43000000#32 = ((128 : ℝ) : EReal) := by
    simp [Ideal.ofBits, Ideal.ieee, -EReal.coe_mul]; norm_num
  have h2 : r128 = ((1 / 128 : ℝ) : EReal) := by
    simp [r128, Ideal.ofBits, Ideal.ieee, -EReal.coe_mul]; norm_num
  rw [h1, h2, Ideal.div_coe (by norm_num)]

theorem div_2048 (x : EReal) : Ideal.div x (Ideal.ofBits .f32 0x45000000#32) = x * r2048 := by
  have h1 : Ideal.ofBits .f32 0x45000000#32 = ((2048 : ℝ) : EReal) := by
    simp [Ideal.ofBits, Ideal.ieee, -EReal.coe_mul]; norm_num
  have h2 : r2048 = ((1 / 2048 : ℝ) : EReal) := by
    simp [r2048, Ideal.ofBits, Ideal.ieee, -EReal.coe_mul]; norm_num
  rw [h1, h2, Ideal.div_coe (by norm_num)]

section Body

variable (hf hb gt : FVec Ideal S512x512 .bf16) (on : FVec Ideal S1x128 .f32) (p : Fin 512) (e : Fin 128)

/-- Head 0 of a block, normalised and gated. -/
theorem pay5_apply : (k0_pay5 (F := Ideal) hf hb gt on (ix2 p e) : EReal)
    = (gt (ix2 p (⟨e.val, by omega⟩ : Fin 512)) : EReal) * rmsAt r128 (fun k : Fin 128 => (hf (ix2 p (⟨k.val, by omega⟩ : Fin 512)) : EReal)
        + hb (ix2 p (⟨k.val, by omega⟩ : Fin 512))) (on (ix2 (0 : Fin 1) e)) e := by
  unfold rmsAt eps r128
  pointwise [k0_pay5, k0_pay3, k0_pay4]

/-- Head 1. -/
theorem pay6_apply : (k0_pay6 (F := Ideal) hf hb gt on (ix2 p e) : EReal)
    = (gt (ix2 p (⟨128 + e.val, by omega⟩ : Fin 512)) : EReal) * rmsAt r128 (fun k : Fin 128 => (hf (ix2 p (⟨128 + k.val, by omega⟩ : Fin 512)) : EReal)
        + hb (ix2 p (⟨128 + k.val, by omega⟩ : Fin 512))) (on (ix2 (0 : Fin 1) e)) e := by
  unfold rmsAt eps r128
  pointwise [k0_pay6, k0_pay3, k0_pay4]

end Body

/-- The heads side by side, as the product with the first rows of the weights takes them. -/
def heads (hf hb gt : FVec Ideal S512x512 .bf16) (g0 g1 g2 g3 : FVec Ideal S1x128 .f32) : FVec Ideal S512x512 .bf16 :=
  let f2 : FVec Ideal S512x128 .f32 := extractStridedSlice S512x128 ![0, 256] (k0_pay3 hf hb) slices_S512x512_o0_256_S512x128
  let f3 : FVec Ideal S512x128 .f32 := extractStridedSlice S512x128 ![0, 384] (k0_pay3 hf hb) slices_S512x512_o0_384_S512x128
  let s (f : FVec Ideal S512x128 .f32) : FVec Ideal S512x128 .f32 := broadcastTo S512x128 (rsqrt (addf (mulf
    (shapeCast S512x1 (multiReduction .add [1] S512 (mulf f f) 0x00000000#32 reduces_S512x128_S512 (.inl rfl) rfl) shapeCasts_S512_S512x1)
    (broadcast S512x1 (Scalar.ofBits .f32 0x3C000000#32))) (broadcast S512x1 (Scalar.ofBits .f32 0x358637BD#32)))) broadcasts_S512x1_S512x128
  truncf .bf16 (concatenate S512x512 1 [⟨S512x128, k0_pay5 hf hb gt g0⟩, ⟨S512x128, k0_pay6 hf hb gt g1⟩,
    ⟨S512x128, mulf (k0_pay7 gt) (mulf (mulf f2 (s f2)) (broadcastTo S512x128 g2 broadcasts_S1x128_S512x128))⟩,
    ⟨S512x128, mulf (extractStridedSlice S512x128 ![0, 384] (k0_pay4 gt) slices_S512x512_o0_384_S512x128)
      (mulf (mulf f3 (s f3)) (broadcastTo S512x128 g3 broadcasts_S1x128_S512x128))⟩]
    concatenates_S512x128_S512x128_S512x128_S512x128_S512x512_d1) bitsLt_bf16_f32

section Heads

variable (hf hb gt : FVec Ideal S512x512 .bf16) (g0 g1 g2 g3 : FVec Ideal S1x128 .f32) (p : Fin 512) (e : Fin 128)

theorem heads_0 : heads hf hb gt g0 g1 g2 g3 (ix2 p (⟨e.val, by omega⟩ : Fin 512)) = (k0_pay5 (F := Ideal) hf hb gt g0 (ix2 p e) : EReal) := by
  pointwise [heads]

theorem heads_1 : heads hf hb gt g0 g1 g2 g3 (ix2 p (⟨128 + e.val, by omega⟩ : Fin 512)) = (k0_pay6 (F := Ideal) hf hb gt g1 (ix2 p e) : EReal) := by
  pointwise [heads]

theorem heads_2 : heads hf hb gt g0 g1 g2 g3 (ix2 p (⟨256 + e.val, by omega⟩ : Fin 512))
    = (gt (ix2 p (⟨256 + e.val, by omega⟩ : Fin 512)) : EReal) * rmsAt r128 (fun k : Fin 128 => (hf (ix2 p (⟨256 + k.val, by omega⟩ : Fin 512)) : EReal)
        + hb (ix2 p (⟨256 + k.val, by omega⟩ : Fin 512))) (g2 (ix2 (0 : Fin 1) e)) e := by
  unfold rmsAt eps r128
  pointwise [heads, k0_pay3, k0_pay4, k0_pay7]
  rw [dif_neg (by omega), dif_neg (by omega), dif_pos (by omega)]
  simp only [show 256 + e.val - 128 - 128 = e.val by omega, Fin.eta]

theorem heads_3 : heads hf hb gt g0 g1 g2 g3 (ix2 p (⟨384 + e.val, by omega⟩ : Fin 512))
    = (gt (ix2 p (⟨384 + e.val, by omega⟩ : Fin 512)) : EReal) * rmsAt r128 (fun k : Fin 128 => (hf (ix2 p (⟨384 + k.val, by omega⟩ : Fin 512)) : EReal)
        + hb (ix2 p (⟨384 + k.val, by omega⟩ : Fin 512))) (g3 (ix2 (0 : Fin 1) e)) e := by
  unfold rmsAt eps r128
  pointwise [heads, k0_pay3, k0_pay4]
  rw [dif_neg (by omega), dif_neg (by omega), dif_neg (by omega)]
  simp only [show 384 + e.val - 128 - 128 - 128 = e.val by omega, Fin.eta]

end Heads

/-- The products with the first two groups of rows of the weights. -/
theorem pay8_apply (hf hb gt : FVec Ideal S512x512 .bf16) (g0 g1 g2 g3 : FVec Ideal S1x128 .f32) (u : FVec Ideal S512x2048 .bf16)
    (y : FVec Ideal S512x768 .bf16) (v : FVec Ideal S768x2048 .bf16) (p : Fin 512) (q : Fin 2048) :
    (k0_pay8 (F := Ideal) (k0_pay3 hf hb) (k0_pay4 gt) (k0_pay5 hf hb gt g0) (k0_pay6 hf hb gt g1) (k0_pay7 gt) g2 g3 u y v (ix2 p q) : EReal)
      = ((∑ C : Fin 512, (heads hf hb gt g0 g1 g2 g3 (ix2 p C) : EReal) * (u (ix2 C q) : EReal) : EReal) + ∑ j : Fin 768, (y (ix2 p j) : EReal) * (v (ix2 j q) : EReal) : EReal) := by
  show (addf (matmul dot_S512x512_S512x2048_S512x2048_1_0_0_1_n_n none (heads hf hb gt g0 g1 g2 g3) (shapeCast S512x2048 u shapeCasts_S512x2048_S512x2048)
      (constant S512x2048 .f32 0x00000000#32)) (matmul dot_S512x768_S768x2048_S512x2048_1_0_0_1_n_n none (shapeCast S512x768 y shapeCasts_S512x768_S512x768)
      (shapeCast S768x2048 v shapeCasts_S768x2048_S768x2048) (constant S512x2048 .f32 0x00000000#32)) : FVec Ideal S512x2048 .f32) (ix2 p q) = _
  pointwise []

theorem pay1_apply (a : FVec Ideal S512x2048 .f32) (y : FVec Ideal S512x768 .bf16) (v : FVec Ideal S768x2048 .bf16)
    (x : FVec Ideal S512x2048 .f32) (p : Fin 512) (q : Fin 2048) :
    k0_pay1 a y v x (ix2 p q) = (x (ix2 p q) : EReal) + (a (ix2 p q) + ∑ j : Fin 768, (y (ix2 p j) : EReal) * v (ix2 j q)) := by
  pointwise [k0_pay1]

theorem pay2_apply (a : FVec Ideal S512x2048 .f32) (y : FVec Ideal S512x768 .bf16) (v : FVec Ideal S768x2048 .bf16)
    (x : FVec Ideal S512x2048 .f32) (g : FVec Ideal S1x2048 .f32) (p : Fin 512) (q : Fin 2048) :
    k0_pay2 a y v x g (ix2 p q) = rmsAt r2048 (fun d : Fin 2048 => k0_pay1 a y v x (ix2 p d)) (g (ix2 (0 : Fin 1) q)) q := by
  unfold rmsAt eps r2048
  pointwise [k0_pay2]

end Cert.Kernel3Ideal.Out

end
-- ==== Proof.OutValue.lean ====
/- The output projection's two results, as functions of its arguments. -/
module

public import proofs.«01_k».proof.Proof.OutPoint

@[expose] public section

set_option maxRecDepth 16384

noncomputable section

namespace Cert.Kernel3Ideal.Out

open Idealize.ShloMosaic Idealize.ShloMosaic.TcCoe Idealize.ShloMosaic.StableHlo
open Cert.Kernel3Ideal Cert.Kernel3Ideal.Gen

section Spec

variable (x : FVec Ideal S2x16384x2048 .f32) (hf hb : FVec Ideal S2x4x16384x128 .f32) (op : FVec Ideal S2x16384x512 .f32)
  (on : FVec Ideal S4x128 .f32) (yb yc : FVec Ideal S2x16384x768 .f32) (w : FVec Ideal S2048x2048 .f32) (g : FVec Ideal S2048 .f32)

/-- The gate on channel `C`: one over one plus the exponential of minus its argument. -/
def gateAt (b : Fin 2) (s : Fin 16384) (C : Fin 512) : EReal := Ideal.div 1 (1 + Ideal.exp (-(op (ix3 b s C) : EReal)))

/-- Entry `e` of head `h` of the memory's two directions added, normalised, then gated. -/
def headAt (b : Fin 2) (s : Fin 16384) (h : Fin 4) (e : Fin 128) : EReal :=
  gateAt op b s (⟨h.val * 128 + e.val, by omega⟩ : Fin 512)
    * rmsAt r128 (fun k : Fin 128 => (hf (ix4 b h s k) : EReal) + hb (ix4 b h s k)) (on (ix2 h e)) e

/-- The residual stream with the three mixers' projected outputs added. -/
def newAt (b : Fin 2) (s : Fin 16384) (d : Fin 2048) : EReal :=
  x (ix3 b s d) + ((∑ C : Fin 512, headAt hf hb op on b s (⟨C.val / 128, by omega⟩ : Fin 4) (⟨C.val % 128, by omega⟩ : Fin 128) * w (ix2 (⟨C.val, by omega⟩ : Fin 2048) d))
    + (∑ j : Fin 768, (yb (ix3 b s j) : EReal) * w (ix2 (⟨512 + j.val, by omega⟩ : Fin 2048) d))
    + ∑ j : Fin 768, (yc (ix3 b s j) : EReal) * w (ix2 (⟨1280 + j.val, by omega⟩ : Fin 2048) d))

/-- The same, normalised for the feed-forward layer. -/
def normAt (b : Fin 2) (s : Fin 16384) (d : Fin 2048) : EReal :=
  rmsAt r2048 (fun k : Fin 2048 => newAt x hf hb op on yb yc w b s k) (g (ix1 d)) d

/-- The first result, positions in one row order. -/
def newRows : FVec Ideal S32768x2048 .f32 := fun i => newAt x hf hb op on yb yc w (⟨(i 0).val / 16384, by have : (i 0).val < 32768 := (i 0).isLt; omega⟩ : Fin 2)
  (⟨(i 0).val % 16384, by omega⟩ : Fin 16384) (⟨(i 1).val, (i 1).isLt⟩ : Fin 2048)

/-- The second result. -/
def normRows : FVec Ideal S32768x2048 .bf16 := fun i => normAt x hf hb op on yb yc w g (⟨(i 0).val / 16384, by have : (i 0).val < 32768 := (i 0).isLt; omega⟩ : Fin 2)
  (⟨(i 0).val % 16384, by omega⟩ : Fin 16384) (⟨(i 1).val, (i 1).isLt⟩ : Fin 2048)

end Spec

section Block

variable (x : FVec Ideal S2x16384x2048 .f32) (hf hb : FVec Ideal S2x4x16384x128 .f32) (op : FVec Ideal S2x16384x512 .f32)
  (on : Vec Ideal S4x128 .f32) (yb yc : FVec Ideal S2x16384x768 .f32) (w : FVec Ideal S2048x2048 .f32) (g : FVec Ideal S2048 .f32)
  (x0 : Vec Ideal S512x2048 .f32) (x1 x2 x3 : Vec Ideal S512x512 .bf16) (x5 x6 : Vec Ideal S512x768 .bf16) (x7 : Vec Ideal S2048x2048 .bf16)
  (x8 : Vec Ideal S1x2048 .f32) (b : Fin 2) (s : Fin 16384) (p : Fin 512)

/-- Row `h` of the gains. -/
theorem gain_0 (e : Fin 128) : (View.ld (Val := Elt Ideal) (e' := .f32) on r0_1 : FVec Ideal S1x128 .f32) (ix2 (0 : Fin 1) e) = on (ix2 (0 : Fin 4) e) :=
  View.ld_unit_apply_of _ _ _ _ _ _ fun a => by fin_cases a <;> simp
theorem gain_1 (e : Fin 128) : (View.ld (Val := Elt Ideal) (e' := .f32) on r0_2 : FVec Ideal S1x128 .f32) (ix2 (0 : Fin 1) e) = on (ix2 (1 : Fin 4) e) :=
  View.ld_unit_apply_of _ _ _ _ _ _ fun a => by fin_cases a <;> simp
theorem gain_2 (e : Fin 128) : (View.ld (Val := Elt Ideal) (e' := .f32) on r0_3 : FVec Ideal S1x128 .f32) (ix2 (0 : Fin 1) e) = on (ix2 (2 : Fin 4) e) :=
  View.ld_unit_apply_of _ _ _ _ _ _ fun a => by fin_cases a <;> simp
theorem gain_3 (e : Fin 128) : (View.ld (Val := Elt Ideal) (e' := .f32) on r0_4 : FVec Ideal S1x128 .f32) (ix2 (0 : Fin 1) e) = on (ix2 (3 : Fin 4) e) :=
  View.ld_unit_apply_of _ _ _ _ _ _ fun a => by fin_cases a <;> simp

/-- The three groups of rows of the weights. -/
theorem weight_a (C : Fin 512) (q : Fin 2048) : (View.ld (Val := Elt Ideal) (e' := .bf16) x7 r0_5 : FVec Ideal S512x2048 .bf16) (ix2 C q) = x7 (ix2 (⟨C.val, by omega⟩ : Fin 2048) q) :=
  View.ld_unit_apply_of _ _ _ _ _ _ fun a => by fin_cases a <;> simp
theorem weight_b (j : Fin 768) (q : Fin 2048) : (View.ld (Val := Elt Ideal) (e' := .bf16) x7 r0_7 : FVec Ideal S768x2048 .bf16) (ix2 j q) = x7 (ix2 (⟨512 + j.val, by omega⟩ : Fin 2048) q) :=
  View.ld_unit_apply_of _ _ _ _ _ _ fun a => by fin_cases a <;> simp
theorem weight_c (j : Fin 768) (q : Fin 2048) : (View.ld (Val := Elt Ideal) (e' := .bf16) x7 r0_8 : FVec Ideal S768x2048 .bf16) (ix2 j q) = x7 (ix2 (⟨1280 + j.val, by omega⟩ : Fin 2048) q) :=
  View.ld_unit_apply_of _ _ _ _ _ _ fun a => by fin_cases a <;> simp

theorem whole_512 (y : Vec Ideal S512x512 .bf16) : (View.ld (Val := Elt Ideal) (e' := .bf16) y r0_0 : FVec Ideal S512x512 .bf16) = y :=
  funext fun i => View.ld_unit_apply_of _ _ _ _ _ _ fun a => by fin_cases a <;> simp
theorem whole_768 (y : Vec Ideal S512x768 .bf16) : (View.ld (Val := Elt Ideal) (e' := .bf16) y r0_6 : FVec Ideal S512x768 .bf16) = y :=
  funext fun i => View.ld_unit_apply_of _ _ _ _ _ _ fun a => by fin_cases a <;> simp
theorem whole_2048 (y : Vec Ideal S512x2048 .f32) : (View.ld (Val := Elt Ideal) (e' := .f32) y r0_9 : FVec Ideal S512x2048 .f32) = y :=
  funext fun i => View.ld_unit_apply_of _ _ _ _ _ _ fun a => by fin_cases a <;> simp
theorem whole_gain (y : Vec Ideal S1x2048 .f32) : (View.ld (Val := Elt Ideal) (e' := .f32) y r0_10 : FVec Ideal S1x2048 .f32) = y :=
  funext fun i => View.ld_unit_apply_of _ _ _ _ _ _ fun a => by fin_cases a <;> simp

variable (h0 : ∀ d : Fin 2048, x0 (ix2 p d) = x (ix3 b s d))
  (h1 : ∀ (h : Fin 4) (e : Fin 128) (C : Fin 512), C.val = h.val * 128 + e.val → x1 (ix2 p C) = hf (ix4 b h s e))
  (h2 : ∀ (h : Fin 4) (e : Fin 128) (C : Fin 512), C.val = h.val * 128 + e.val → x2 (ix2 p C) = hb (ix4 b h s e))
  (h3 : ∀ C : Fin 512, x3 (ix2 p C) = gateAt op b s C)
  (h5 : ∀ j : Fin 768, x5 (ix2 p j) = yb (ix3 b s j)) (h6 : ∀ j : Fin 768, x6 (ix2 p j) = yc (ix3 b s j))
  (h7 : ∀ i d : Fin 2048, x7 (ix2 i d) = w (ix2 i d)) (h8 : ∀ d : Fin 2048, x8 (ix2 (0 : Fin 1) d) = g (ix1 d))

include h1 h2 h3 in
/-- The heads of a block are the heads of its position. -/
theorem heads_apply (h : Fin 4) (e : Fin 128) (C : Fin 512) (hC : C.val = h.val * 128 + e.val) :
    (heads x1 x2 x3 (View.ld (Val := Elt Ideal) (e' := .f32) on r0_1) (View.ld (Val := Elt Ideal) (e' := .f32) on r0_2) (View.ld (Val := Elt Ideal) (e' := .f32) on r0_3) (View.ld (Val := Elt Ideal) (e' := .f32) on r0_4) (ix2 p C) : EReal) = headAt hf hb op on b s h e := by
  unfold headAt
  match h, hC with
  | ⟨0, _⟩, hC =>
    have hi : C = (⟨e.val, by omega⟩ : Fin 512) := Fin.ext (by simpa using hC)
    have hg : (⟨e.val, by omega⟩ : Fin 512) = (⟨0 * 128 + e.val, by omega⟩ : Fin 512) := Fin.ext (by simp)
    rw [hi, heads_0, pay5_apply, gain_0, h3]
    simp only [fun k : Fin 128 => h1 0 k (⟨k.val, by omega⟩ : Fin 512) (by simp), fun k : Fin 128 => h2 0 k (⟨k.val, by omega⟩ : Fin 512) (by simp)]
    rw [hg]
    rfl
  | ⟨1, _⟩, hC =>
    have hi : C = (⟨128 + e.val, by omega⟩ : Fin 512) := Fin.ext (by simpa using hC)
    rw [hi, heads_1, pay6_apply, gain_1, h3]
    simp only [fun k : Fin 128 => h1 1 k (⟨128 + k.val, by omega⟩ : Fin 512) (by simp), fun k : Fin 128 => h2 1 k (⟨128 + k.val, by omega⟩ : Fin 512) (by simp)]
    rfl
  | ⟨2, _⟩, hC =>
    have hi : C = (⟨256 + e.val, by omega⟩ : Fin 512) := Fin.ext (by simpa using hC)
    rw [hi, heads_2, gain_2, h3]
    simp only [fun k : Fin 128 => h1 2 k (⟨256 + k.val, by omega⟩ : Fin 512) (by simp), fun k : Fin 128 => h2 2 k (⟨256 + k.val, by omega⟩ : Fin 512) (by simp)]
    rfl
  | ⟨3, _⟩, hC =>
    have hi : C = (⟨384 + e.val, by omega⟩ : Fin 512) := Fin.ext (by simpa using hC)
    rw [hi, heads_3, gain_3, h3]
    simp only [fun k : Fin 128 => h1 3 k (⟨384 + k.val, by omega⟩ : Fin 512) (by simp), fun k : Fin 128 => h2 3 k (⟨384 + k.val, by omega⟩ : Fin 512) (by simp)]
    rfl

include h0 h1 h2 h3 h5 h6 h7 in
theorem new_apply (q : Fin 2048) :
    (k0_pay1 (F := Ideal) (k0_pay9 x0 x1 x2 x3 on x5 x6 x7 x8) (View.ld (Val := Elt Ideal) (e' := .bf16) x6 r0_6) (View.ld (Val := Elt Ideal) (e' := .bf16) x7 r0_8) (View.ld (Val := Elt Ideal) (e' := .f32) x0 r0_9) (ix2 p q) : EReal)
      = newAt x hf hb op on yb yc w b s q := by
  have hh : ∀ C : Fin 512, (heads x1 x2 x3 (View.ld (Val := Elt Ideal) (e' := .f32) on r0_1) (View.ld (Val := Elt Ideal) (e' := .f32) on r0_2) (View.ld (Val := Elt Ideal) (e' := .f32) on r0_3) (View.ld (Val := Elt Ideal) (e' := .f32) on r0_4) (ix2 p C) : EReal)
      = headAt hf hb op on b s (⟨C.val / 128, by omega⟩ : Fin 4) (⟨C.val % 128, by omega⟩ : Fin 128) := fun C =>
    heads_apply hf hb op on x1 x2 x3 b s p h1 h2 h3 _ _ C (by show C.val = C.val / 128 * 128 + C.val % 128; omega)
  unfold k0_pay9 newAt
  rw [pay1_apply, whole_512, whole_512, whole_512, whole_768, whole_768, whole_2048, pay8_apply]
  simp only [hh, h0, h5, h6]
  exact congrArg₂ (· + ·) rfl (congrArg₂ (· + ·)
    (congrArg₂ (· + ·) (Finset.sum_congr rfl fun C _ => congrArg₂ (· * ·) rfl ((weight_a x7 C q).trans (h7 _ _)))
      (Finset.sum_congr rfl fun j _ => congrArg₂ (· * ·) rfl ((weight_b x7 j q).trans (h7 _ _))))
    (Finset.sum_congr rfl fun j _ => congrArg₂ (· * ·) rfl ((weight_c x7 j q).trans (h7 _ _))))

include h0 h1 h2 h3 h5 h6 h7 h8 in
theorem norm_apply (q : Fin 2048) :
    (k0_pay2 (F := Ideal) (k0_pay9 x0 x1 x2 x3 on x5 x6 x7 x8) (View.ld (Val := Elt Ideal) (e' := .bf16) x6 r0_6) (View.ld (Val := Elt Ideal) (e' := .bf16) x7 r0_8) (View.ld (Val := Elt Ideal) (e' := .f32) x0 r0_9) (View.ld (Val := Elt Ideal) (e' := .f32) x8 r0_10) (ix2 p q) : EReal)
      = normAt x hf hb op on yb yc w g b s q := by
  unfold normAt
  rw [pay2_apply, whole_gain, h8]
  simp only [new_apply x hf hb op on yb yc w x0 x1 x2 x3 x5 x6 x7 x8 b s p h0 h1 h2 h3 h5 h6 h7]

end Block

end Cert.Kernel3Ideal.Out

end
-- ==== Proof.OutFinal.lean ====
/- The arrays the output projection's call leaves, from its blocks. -/
module

public import proofs.«01_k».proof.Proof.OutValue

@[expose] public section

set_option maxRecDepth 16384

noncomputable section

namespace Cert.Kernel3Ideal.Out

open Idealize.ShloMosaic Idealize.ShloMosaic.TcCoe Idealize.SL.Sem Idealize.ShloMosaic.StableHlo
open Cert.Kernel3Ideal Cert.Kernel3Ideal.Gen

section Entry

variable {F : FTy → Type} [FloatOps F]
variable (m : (ℓ : Loc nD τ sig) → Buf (Elt F) ℓ) (c : Dev nD)

/-- Heads side by side, positions in one row order. -/
def sideBySide (a : FVec F S2x4x16384x128 .f32) : FVec F S32768x512 .bf16 :=
  truncf .bf16 (shapeCast S32768x512 (transpose S2x16384x4x128 [0, 2, 1, 3] a transposes_S2x4x16384x128_S2x16384x4x128_0_2_1_3) shapeCasts_S2x16384x4x128_S32768x512) bitsLt_bf16_f32

/-- The gates, positions in one row order. -/
def gates (a : FVec F S2x16384x512 .f32) : FVec F S32768x512 .bf16 :=
  truncf .bf16 (shapeCast S32768x512 (Host.divf (broadcastInDim S2x16384x512 ![] bcast_S_S2x16384x512 (constant S_ .f32 0x3F800000#32))
    (addf (broadcastInDim S2x16384x512 ![] bcast_S_S2x16384x512 (constant S_ .f32 0x3F800000#32)) (Host.exp (Host.negf a)))) shapeCasts_S2x16384x512_S32768x512) bitsLt_bf16_f32

/-- A mixer's rows, positions in one row order. -/
def rows768 (a : FVec F S2x16384x768 .f32) : FVec F S32768x768 .bf16 :=
  truncf .bf16 (shapeCast S32768x768 a shapeCasts_S2x16384x768_S32768x768) bitsLt_bf16_f32

theorem V_x : V m c main_v0 = shapeCast S32768x2048 (m ((c.tc : Thread nD τ).loc main_arg0)) shapeCasts_S2x16384x2048_S32768x2048 := by
  unfold V hostOps0
  after_results <;> rfl

theorem V_hf : V m c main_v3 = sideBySide (F := F) (m ((c.tc : Thread nD τ).loc main_arg1)) := by
  unfold V hostOps0
  after_results <;> rfl

theorem V_hb : V m c main_v6 = sideBySide (F := F) (m ((c.tc : Thread nD τ).loc main_arg2)) := by
  unfold V hostOps0
  after_results <;> rfl

theorem V_op : V m c main_v14 = gates (F := F) (m ((c.tc : Thread nD τ).loc main_arg3)) := by
  unfold V hostOps0
  after_results <;> rfl

theorem V_yb : V m c main_v16 = rows768 (F := F) (m ((c.tc : Thread nD τ).loc main_arg5)) := by
  unfold V hostOps0
  after_results <;> rfl

theorem V_yc : V m c main_v18 = rows768 (F := F) (m ((c.tc : Thread nD τ).loc main_arg6)) := by
  unfold V hostOps0
  after_results <;> rfl

theorem V_w : V m c main_v19 = (truncf .bf16 (m ((c.tc : Thread nD τ).loc main_arg7)) bitsLt_bf16_f32 : FVec F S2048x2048 .bf16) := by
  unfold V hostOps0
  after_results <;> rfl

theorem V_g : V m c main_v20 = (broadcastInDim S1x2048 ![1] bcast_S2048_S1x2048_1 (m ((c.tc : Thread nD τ).loc main_arg8)) : FVec F S1x2048 .f32) := by
  unfold V hostOps0
  after_results <;> rfl

end Entry

section Read

theorem rows_apply (y : FVec Ideal S2x16384x2048 .f32) (R : Fin 32768) (d : Fin 2048) :
    (shapeCast S32768x2048 y shapeCasts_S2x16384x2048_S32768x2048 : FVec Ideal S32768x2048 .f32) (ix2 R d)
      = y (ix3 (⟨R.val / 16384, by omega⟩ : Fin 2) (⟨R.val % 16384, by omega⟩ : Fin 16384) d) := by
  pointwise []

theorem rows768_apply (y : FVec Ideal S2x16384x768 .f32) (R : Fin 32768) (d : Fin 768) :
    rows768 y (ix2 R d) = y (ix3 (⟨R.val / 16384, by omega⟩ : Fin 2) (⟨R.val % 16384, by omega⟩ : Fin 16384) d) := by
  pointwise [rows768]

theorem gates_apply (y : FVec Ideal S2x16384x512 .f32) (R : Fin 32768) (C : Fin 512) :
    gates y (ix2 R C) = gateAt y (⟨R.val / 16384, by omega⟩ : Fin 2) (⟨R.val % 16384, by omega⟩ : Fin 16384) C := by
  unfold gateAt
  pointwise [gates]

theorem side_apply (y : FVec Ideal S2x4x16384x128 .f32) (R : Fin 32768) (C : Fin 512) :
    sideBySide y (ix2 R C) = y (ix4 (⟨R.val / 16384, by omega⟩ : Fin 2) (⟨C.val / 128, by omega⟩ : Fin 4) (⟨R.val % 16384, by omega⟩ : Fin 16384) (⟨C.val % 128, by omega⟩ : Fin 128)) := by
  pointwise [sideBySide]

theorem gain_apply (y : FVec Ideal S2048 .f32) (d : Fin 2048) :
    (broadcastInDim S1x2048 ![1] bcast_S2048_S1x2048_1 y : FVec Ideal S1x2048 .f32) (ix2 (0 : Fin 1) d) = y (ix1 d) := by
  pointwise []

end Read

/-- Where the windows sit. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![t.val, 0] ∧ win0_6.index t = ![t.val, 0]
    ∧ win0_7.index t = ![0, 0] ∧ win0_8.index t = ![0, 0] ∧ win0_9.index t = ![t.val, 0] ∧ win0_10.index t = ![t.val, 0] :=
  (by decide +kernel : ∀ t : Fin grid0.N, _)

section Blocks

variable (m : (ℓ : Loc nD τ sig) → Buf (Elt Ideal) ℓ) (c : Dev nD) (t : Fin cfg0.N) (p : Fin 512) (R : Fin 32768) (hR : R.val = t.val * 512 + p.val)

include hR

theorem blk_x (d : Fin 2048) : (iblk m c 0 t : FVec Ideal S512x2048 .f32) (ix2 p d) = (V m c main_v0 : FVec Ideal S32768x2048 .f32) (ix2 R d) := by
  blk_ext [iblk, idx t]
theorem blk_hf (C : Fin 512) : (iblk m c 1 t : FVec Ideal S512x512 .bf16) (ix2 p C) = (V m c main_v3 : FVec Ideal S32768x512 .bf16) (ix2 R C) := by
  blk_ext [iblk, idx t]
theorem blk_hb (C : Fin 512) : (iblk m c 2 t : FVec Ideal S512x512 .bf16) (ix2 p C) = (V m c main_v6 : FVec Ideal S32768x512 .bf16) (ix2 R C) := by
  blk_ext [iblk, idx t]
theorem blk_op (C : Fin 512) : (iblk m c 3 t : FVec Ideal S512x512 .bf16) (ix2 p C) = (V m c main_v14 : FVec Ideal S32768x512 .bf16) (ix2 R C) := by
  blk_ext [iblk, idx t]
theorem blk_yb (j : Fin 768) : (iblk m c 5 t : FVec Ideal S512x768 .bf16) (ix2 p j) = (V m c main_v16 : FVec Ideal S32768x768 .bf16) (ix2 R j) := by
  blk_ext [iblk, idx t]
theorem blk_yc (j : Fin 768) : (iblk m c 6 t : FVec Ideal S512x768 .bf16) (ix2 p j) = (V m c main_v18 : FVec Ideal S32768x768 .bf16) (ix2 R j) := by
  blk_ext [iblk, idx t]

omit hR

theorem blk_on : (iblk m c 4 t : FVec Ideal S4x128 .f32) = (V m c main_arg4 : FVec Ideal S4x128 .f32) := by
  funext i
  have hi : i = ix2 (i 0) (i 1) := by funext a; fin_cases a <;> rfl
  rw [hi]
  generalize i 0 = h
  generalize i 1 = e
  blk_ext [iblk, idx t]
theorem blk_w (i d : Fin 2048) : (iblk m c 7 t : FVec Ideal S2048x2048 .bf16) (ix2 i d) = (V m c main_v19 : FVec Ideal S2048x2048 .bf16) (ix2 i d) := by
  blk_ext [iblk, idx t]
theorem blk_g (d : Fin 2048) : (iblk m c 8 t : FVec Ideal S1x2048 .f32) (ix2 (0 : Fin 1) d) = (V m c main_v20 : FVec Ideal S1x2048 .f32) (ix2 (0 : Fin 1) d) := by
  blk_ext [iblk, idx t]

end Blocks

section Final

variable (m : (ℓ : Loc nD τ sig) → Buf (Elt Ideal) ℓ) (c : Dev nD)

/-- The arguments, at their types. -/
abbrev argX : FVec Ideal S2x16384x2048 .f32 := m ((c.tc : Thread nD τ).loc main_arg0)
abbrev argHf : FVec Ideal S2x4x16384x128 .f32 := m ((c.tc : Thread nD τ).loc main_arg1)
abbrev argHb : FVec Ideal S2x4x16384x128 .f32 := m ((c.tc : Thread nD τ).loc main_arg2)
abbrev argOp : FVec Ideal S2x16384x512 .f32 := m ((c.tc : Thread nD τ).loc main_arg3)
abbrev argOn : FVec Ideal S4x128 .f32 := m ((c.tc : Thread nD τ).loc main_arg4)
abbrev argYb : FVec Ideal S2x16384x768 .f32 := m ((c.tc : Thread nD τ).loc main_arg5)
abbrev argYc : FVec Ideal S2x16384x768 .f32 := m ((c.tc : Thread nD τ).loc main_arg6)
abbrev argW : FVec Ideal S2048x2048 .f32 := m ((c.tc : Thread nD τ).loc main_arg7)
abbrev argG : FVec Ideal S2048 .f32 := m ((c.tc : Thread nD τ).loc main_arg8)

section Reads

variable (t : Fin cfg0.N) (p : Fin 512) (R : Fin 32768) (hR : R.val = t.val * 512 + p.val)

include hR

theorem read_x (d : Fin 2048) : (iblk m c 0 t : FVec Ideal S512x2048 .f32) (ix2 p d)
    = argX m c (ix3 (⟨R.val / 16384, by omega⟩ : Fin 2) (⟨R.val % 16384, by omega⟩ : Fin 16384) d) := by
  rw [blk_x m c t p R hR, V_x]
  exact rows_apply _ R d

theorem read_hf (h : Fin 4) (e : Fin 128) (C : Fin 512) (hC : C.val = h.val * 128 + e.val) : (iblk m c 1 t : FVec Ideal S512x512 .bf16) (ix2 p C)
    = argHf m c (ix4 (⟨R.val / 16384, by omega⟩ : Fin 2) h (⟨R.val % 16384, by omega⟩ : Fin 16384) e) := by
  have eh : (⟨C.val / 128, by omega⟩ : Fin 4) = h := Fin.ext (by show C.val / 128 = h.val; omega)
  have ee : (⟨C.val % 128, by omega⟩ : Fin 128) = e := Fin.ext (by show C.val % 128 = e.val; omega)
  rw [blk_hf m c t p R hR, V_hf, side_apply, eh, ee]

theorem read_hb (h : Fin 4) (e : Fin 128) (C : Fin 512) (hC : C.val = h.val * 128 + e.val) : (iblk m c 2 t : FVec Ideal S512x512 .bf16) (ix2 p C)
    = argHb m c (ix4 (⟨R.val / 16384, by omega⟩ : Fin 2) h (⟨R.val % 16384, by omega⟩ : Fin 16384) e) := by
  have eh : (⟨C.val / 128, by omega⟩ : Fin 4) = h := Fin.ext (by show C.val / 128 = h.val; omega)
  have ee : (⟨C.val % 128, by omega⟩ : Fin 128) = e := Fin.ext (by show C.val % 128 = e.val; omega)
  rw [blk_hb m c t p R hR, V_hb, side_apply, eh, ee]

theorem read_op (C : Fin 512) : (iblk m c 3 t : FVec Ideal S512x512 .bf16) (ix2 p C)
    = gateAt (argOp m c) (⟨R.val / 16384, by omega⟩ : Fin 2) (⟨R.val % 16384, by omega⟩ : Fin 16384) C := by
  rw [blk_op m c t p R hR, V_op, gates_apply]

theorem read_yb (j : Fin 768) : (iblk m c 5 t : FVec Ideal S512x768 .bf16) (ix2 p j)
    = argYb m c (ix3 (⟨R.val / 16384, by omega⟩ : Fin 2) (⟨R.val % 16384, by omega⟩ : Fin 16384) j) := by
  rw [blk_yb m c t p R hR, V_yb, rows768_apply]

theorem read_yc (j : Fin 768) : (iblk m c 6 t : FVec Ideal S512x768 .bf16) (ix2 p j)
    = argYc m c (ix3 (⟨R.val / 16384, by omega⟩ : Fin 2) (⟨R.val % 16384, by omega⟩ : Fin 16384) j) := by
  rw [blk_yc m c t p R hR, V_yc, rows768_apply]

omit hR

theorem read_on : (iblk m c 4 t : FVec Ideal S4x128 .f32) = argOn m c := by
  rw [blk_on, V_main_arg4]

theorem read_w (i d : Fin 2048) : (iblk m c 7 t : FVec Ideal S2048x2048 .bf16) (ix2 i d) = argW m c (ix2 i d) := by
  rw [blk_w, V_w]
  rfl

theorem read_g (d : Fin 2048) : (iblk m c 8 t : FVec Ideal S1x2048 .f32) (ix2 (0 : Fin 1) d) = argG m c (ix1 d) := by
  rw [blk_g, V_g]
  exact gain_apply _ d

include hR

/-- Entry `(p, q)` of the block that point `t` leaves for the first result. -/
theorem block_new (q : Fin 2048) :
    (out0_9 (F := Ideal) (iblk m c 0 t) (iblk m c 1 t) (iblk m c 2 t) (iblk m c 3 t) (iblk m c 4 t) (iblk m c 5 t) (iblk m c 6 t) (iblk m c 7 t) (iblk m c 8 t) (ix2 p q) : EReal)
      = newAt (argX m c) (argHf m c) (argHb m c) (argOp m c) (argOn m c) (argYb m c) (argYc m c) (argW m c)
          (⟨R.val / 16384, by omega⟩ : Fin 2) (⟨R.val % 16384, by omega⟩ : Fin 16384) q := by
  have e := new_apply (argX m c) (argHf m c) (argHb m c) (argOp m c) (iblk m c 4 t) (argYb m c) (argYc m c) (argW m c)
    (iblk m c 0 t) (iblk m c 1 t) (iblk m c 2 t) (iblk m c 3 t) (iblk m c 5 t) (iblk m c 6 t) (iblk m c 7 t) (iblk m c 8 t) _ _ p
    (read_x m c t p R hR) (read_hf m c t p R hR) (read_hb m c t p R hR) (read_op m c t p R hR) (read_yb m c t p R hR) (read_yc m c t p R hR) (read_w m c t) q
  refine Eq.trans ?_ (e.trans (congrArg (fun o => newAt (argX m c) (argHf m c) (argHb m c) (argOp m c) o (argYb m c) (argYc m c) (argW m c) _ _ q) (read_on m c t)))
  unfold out0_9
  canon_tiles x hx
  refine congrArg _ (funext fun a => Fin.ext ?_)
  fin_cases a
  · exact hx0.symm
  · exact hx1.symm

/-- The same for the second result. -/
theorem block_norm (q : Fin 2048) :
    (out0_10 (F := Ideal) (iblk m c 0 t) (iblk m c 1 t) (iblk m c 2 t) (iblk m c 3 t) (iblk m c 4 t) (iblk m c 5 t) (iblk m c 6 t) (iblk m c 7 t) (iblk m c 8 t) (ix2 p q) : EReal)
      = normAt (argX m c) (argHf m c) (argHb m c) (argOp m c) (argOn m c) (argYb m c) (argYc m c) (argW m c) (argG m c)
          (⟨R.val / 16384, by omega⟩ : Fin 2) (⟨R.val % 16384, by omega⟩ : Fin 16384) q := by
  have e := norm_apply (argX m c) (argHf m c) (argHb m c) (argOp m c) (iblk m c 4 t) (argYb m c) (argYc m c) (argW m c) (argG m c)
    (iblk m c 0 t) (iblk m c 1 t) (iblk m c 2 t) (iblk m c 3 t) (iblk m c 5 t) (iblk m c 6 t) (iblk m c 7 t) (iblk m c 8 t) _ _ p
    (read_x m c t p R hR) (read_hf m c t p R hR) (read_hb m c t p R hR) (read_op m c t p R hR) (read_yb m c t p R hR) (read_yc m c t p R hR) (read_w m c t) (read_g m c t) q
  refine Eq.trans ?_ (e.trans (congrArg (fun o => normAt (argX m c) (argHf m c) (argHb m c) (argOp m c) o (argYb m c) (argYc m c) (argW m c) (argG m c) _ _ q) (read_on m c t)))
  unfold out0_10
  canon_tiles x hx
  refine congrArg _ (funext fun a => Fin.ext ?_)
  fin_cases a
  · exact hx0.symm
  · exact hx1.symm

end Reads

/-- Any entry `y` of the block, by the batch, the position and the column it lies at. -/
theorem block_new_at (t : Fin cfg0.N) (y : S512x2048.Idx) (b : Fin 2) (s : Fin 16384) (d : Fin 2048)
    (hb : b.val * 16384 + s.val = t.val * 512 + (y 0).val) (hd : d.val = (y 1).val) :
    (out0_9 (F := Ideal) (iblk m c 0 t) (iblk m c 1 t) (iblk m c 2 t) (iblk m c 3 t) (iblk m c 4 t) (iblk m c 5 t) (iblk m c 6 t) (iblk m c 7 t) (iblk m c 8 t) y : EReal)
      = newAt (argX m c) (argHf m c) (argHb m c) (argOp m c) (argOn m c) (argYb m c) (argYc m c) (argW m c) b s d := by
  obtain ⟨p, q, rfl⟩ : ∃ (p : Fin 512) (q : Fin 2048), y = ix2 p q := ⟨y 0, y 1, by funext a; fin_cases a <;> rfl⟩
  obtain rfl : q = d := Fin.ext hd.symm
  have h0 : (⟨(⟨b.val * 16384 + s.val, by omega⟩ : Fin 32768).val / 16384, by omega⟩ : Fin 2) = b :=
    Fin.ext (show (b.val * 16384 + s.val) / 16384 = b.val by omega)
  have h1 : (⟨(⟨b.val * 16384 + s.val, by omega⟩ : Fin 32768).val % 16384, by omega⟩ : Fin 16384) = s :=
    Fin.ext (show (b.val * 16384 + s.val) % 16384 = s.val by omega)
  exact (block_new m c t p (⟨b.val * 16384 + s.val, by omega⟩ : Fin 32768) hb q).trans
    (congrArg₂ (fun b s => newAt (argX m c) (argHf m c) (argHb m c) (argOp m c) (argOn m c) (argYb m c) (argYc m c) (argW m c) b s q) h0 h1)

/-- Any entry `y` of the block, by the batch, the position and the column it lies at. -/
theorem block_norm_at (t : Fin cfg0.N) (y : S512x2048.Idx) (b : Fin 2) (s : Fin 16384) (d : Fin 2048)
    (hb : b.val * 16384 + s.val = t.val * 512 + (y 0).val) (hd : d.val = (y 1).val) :
    (out0_10 (F := Ideal) (iblk m c 0 t) (iblk m c 1 t) (iblk m c 2 t) (iblk m c 3 t) (iblk m c 4 t) (iblk m c 5 t) (iblk m c 6 t) (iblk m c 7 t) (iblk m c 8 t) y : EReal)
      = normAt (argX m c) (argHf m c) (argHb m c) (argOp m c) (argOn m c) (argYb m c) (argYc m c) (argW m c) (argG m c) b s d := by
  obtain ⟨p, q, rfl⟩ : ∃ (p : Fin 512) (q : Fin 2048), y = ix2 p q := ⟨y 0, y 1, by funext a; fin_cases a <;> rfl⟩
  obtain rfl : q = d := Fin.ext hd.symm
  have h0 : (⟨(⟨b.val * 16384 + s.val, by omega⟩ : Fin 32768).val / 16384, by omega⟩ : Fin 2) = b :=
    Fin.ext (show (b.val * 16384 + s.val) / 16384 = b.val by omega)
  have h1 : (⟨(⟨b.val * 16384 + s.val, by omega⟩ : Fin 32768).val % 16384, by omega⟩ : Fin 16384) = s :=
    Fin.ext (show (b.val * 16384 + s.val) % 16384 = s.val by omega)
  exact (block_norm m c t p (⟨b.val * 16384 + s.val, by omega⟩ : Fin 32768) hb q).trans
    (congrArg₂ (fun b s => normAt (argX m c) (argHf m c) (argHb m c) (argOp m c) (argOn m c) (argYb m c) (argYc m c) (argW m c) (argG m c) b s q) h0 h1)

/-- The call leaves the new residual stream. -/
theorem final_new : (dats m 0 c).arrAt 9 cfg0.N
    = newRows (argX m c) (argHf m c) (argHb m c) (argOp m c) (argOn m c) (argYb m c) (argYc m c) (argW m c) := by
  refine (dats m 0 c).arrAt_eq_of_covers 9 _ (by decide +kernel) fun t _ y => ?_
  blk_simp
  rw [after0_9]
  have e0 : ((((cfg0.win 9).blk t).view.emb y) 0).val = t.val * 512 + (y 0).val := by
    blk_simp [idx t]
  have e1 : ((((cfg0.win 9).blk t).view.emb y) 1).val = (y 1).val := by
    blk_simp [idx t]
  refine block_new_at m c t y _ _ _ ?_ e1
  refine Eq.trans ?_ e0
  exact Nat.div_add_mod' _ _

/-- The call leaves the normalised stream. -/
theorem final_norm : (dats m 0 c).arrAt 10 cfg0.N
    = normRows (argX m c) (argHf m c) (argHb m c) (argOp m c) (argOn m c) (argYb m c) (argYc m c) (argW m c) (argG m c) := by
  refine (dats m 0 c).arrAt_eq_of_covers 10 _ (by decide +kernel) fun t _ y => ?_
  blk_simp
  rw [after0_10]
  have e0 : ((((cfg0.win 10).blk t).view.emb y) 0).val = t.val * 512 + (y 0).val := by
    blk_simp [idx t]
  have e1 : ((((cfg0.win 10).blk t).view.emb y) 1).val = (y 1).val := by
    blk_simp [idx t]
  refine block_norm_at m c t y _ _ _ ?_ e1
  refine Eq.trans ?_ e0
  exact Nat.div_add_mod' _ _

end Final

section Run

variable {F : FTy → Type} [FloatOps F]
variable (m : (ℓ : Loc nD τ sig) → Buf (Elt F) ℓ) (ρ : Dev nD → PrngReg)

/-- Every run ends with the two results at the call's arrays and the arguments as they were. -/
theorem run : θ_run defs (onTc (τ := τ) (main (F := F))) ⟨m, fun _ => 0, ρ⟩ fun r => ∀ c : Dev nD,
      r.2.mem ((c.tc : Thread nD τ).loc main_v21_0) = (dats m 0 c).arrAt 9 cfg0.N
      ∧ r.2.mem ((c.tc : Thread nD τ).loc main_v21_1) = (dats m 0 c).arrAt 10 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => ⟨(h.1 c).1 9, (h.1 c).1 10, h.2 c⟩)
    (θ_run_and (run_main m ρ) (unchanged m ρ))

end Run

end Cert.Kernel3Ideal.Out

end
-- ==== Proof.OutRef.lean ====
/- The output projection written plainly, entry by entry. -/
module

public import proofs.«01_k».proof.Proof.OutValue
public import proofs.«01_k».proof.Proof.Gen.Reference3Ideal.Run

@[expose] public section

set_option maxRecDepth 16384

noncomputable section

namespace Cert.Reference3Ideal.Out

open Idealize.ShloMosaic Idealize.ShloMosaic.TcCoe Cert.Reference3Ideal Cert.Reference3Ideal.Gen
open Cert.Kernel3Ideal.Out (rmsAt eps r128 r2048 div_128 div_2048 gateAt headAt newAt normAt newRows normRows)

variable (x : FVec Ideal S2x16384x2048 .f32) (hf hb : FVec Ideal S2x4x16384x128 .f32) (op : FVec Ideal S2x16384x512 .f32)
  (on : FVec Ideal S4x128 .f32) (yb yc : FVec Ideal S2x16384x768 .f32) (w : FVec Ideal S2048x2048 .f32) (g : FVec Ideal S2048 .f32)

/-- The memory's heads, normalised. -/
def normed : FVec Ideal S2x4x16384x128 .f32 :=
  mulf (mulf (addf hf hb) (broadcastInDim S2x4x16384x128 ![0, 1, 2, 3] bcast_S2x4x16384x1_S2x4x16384x128_0_1_2_3 (Host.rsqrt (addf (Host.divf
    (broadcastInDim S2x4x16384x1 ![0, 1, 2] bcast_S2x4x16384_S2x4x16384x1_0_1_2 (Host.reduceAdd (mulf (addf hf hb) (addf hf hb)) (constant S_ .f32 0x00000000#32)
      reducesTo_S2x4x16384x128_S2x4x16384_d3 h_S_)) (broadcastInDim S2x4x16384x1 ![] bcast_S_S2x4x16384x1 (constant S_ .f32 0x43000000#32)))
    (broadcastInDim S2x4x16384x1 ![] bcast_S_S2x4x16384x1 (constant S_ .f32 0x358637BD#32))))))
    (broadcastInDim S2x4x16384x128 ![0, 1, 2, 3] bcast_S1x4x1x128_S2x4x16384x128_0_1_2_3 (broadcastInDim S1x4x1x128 ![1, 2, 3] bcast_S4x1x128_S1x4x1x128_1_2_3
      (broadcastInDim S4x1x128 ![0, 2] bcast_S4x128_S4x1x128_0_2 on)))

theorem normed_apply (b : Fin 2) (h : Fin 4) (s : Fin 16384) (e : Fin 128) :
    normed hf hb on (ix4 b h s e) = rmsAt r128 (fun k : Fin 128 => (hf (ix4 b h s k) : EReal) + hb (ix4 b h s k)) (on (ix2 h e)) e := by
  unfold rmsAt eps
  rw [← div_128]
  pointwise [normed]

/-- The heads side by side and gated. -/
def gated : FVec Ideal S2x16384x512 .f32 :=
  mulf (Host.divf (broadcastInDim S2x16384x512 ![] bcast_S_S2x16384x512 (constant S_ .f32 0x3F800000#32))
    (addf (broadcastInDim S2x16384x512 ![] bcast_S_S2x16384x512 (constant S_ .f32 0x3F800000#32)) (Host.exp (Host.negf op))))
    (shapeCast S2x16384x512 (transpose S2x16384x4x128 [0, 2, 1, 3] (normed hf hb on) transposes_S2x4x16384x128_S2x16384x4x128_0_2_1_3) shapeCasts_S2x16384x4x128_S2x16384x512)

theorem gated_apply (b : Fin 2) (s : Fin 16384) (C : Fin 512) :
    gated hf hb op on (ix3 b s C) = headAt hf hb op on b s (⟨C.val / 128, by omega⟩ : Fin 4) (⟨C.val % 128, by omega⟩ : Fin 128) := by
  unfold headAt
  rw [← normed_apply]
  have hC : (⟨C.val / 128 * 128 + C.val % 128, by omega⟩ : Fin 512) = C := Fin.ext (by show C.val / 128 * 128 + C.val % 128 = C.val; omega)
  rw [hC]
  unfold gateAt
  pointwise [gated]

/-- The three mixers' outputs side by side. -/
def mixed : FVec Ideal S2x16384x2048 .f32 :=
  concatenate S2x16384x2048 2 [⟨S2x16384x512, gated hf hb op on⟩, ⟨S2x16384x768, yb⟩, ⟨S2x16384x768, yc⟩]
    concatenates_S2x16384x512_S2x16384x768_S2x16384x768_S2x16384x2048_d2

theorem mixed_a (b : Fin 2) (s : Fin 16384) (C : Fin 512) :
    mixed hf hb op on yb yc (ix3 b s (⟨C.val, by omega⟩ : Fin 2048)) = gated hf hb op on (ix3 b s C) := by
  pointwise [mixed]

theorem mixed_b (b : Fin 2) (s : Fin 16384) (j : Fin 768) :
    mixed hf hb op on yb yc (ix3 b s (⟨512 + j.val, by omega⟩ : Fin 2048)) = yb (ix3 b s j) := by
  pointwise [mixed]

theorem mixed_c (b : Fin 2) (s : Fin 16384) (j : Fin 768) :
    mixed hf hb op on yb yc (ix3 b s (⟨1280 + j.val, by omega⟩ : Fin 2048)) = yc (ix3 b s j) := by
  pointwise [mixed]
  rw [dif_neg (by omega), dif_neg (by omega)]
  simp only [show 1280 + j.val - 512 - 768 = j.val by omega, Fin.eta]

/-- A sum over the model's channels, mixer by mixer. -/
theorem sum_mixers (f : Fin 2048 → EReal) : ∑ i : Fin 2048, f i
    = ((∑ C : Fin 512, f (⟨C.val, by omega⟩ : Fin 2048)) + ∑ j : Fin 768, f (⟨512 + j.val, by omega⟩ : Fin 2048)) + ∑ j : Fin 768, f (⟨1280 + j.val, by omega⟩ : Fin 2048) := by
  have e1 := Fin.sum_univ_add (M := EReal) (a := 1280) (b := 768) f
  have e2 := Fin.sum_univ_add (M := EReal) (a := 512) (b := 768) fun i : Fin 1280 => f (Fin.castAdd 768 i)
  exact e1.trans (congrArg (· + ∑ j : Fin 768, f (Fin.natAdd 1280 j)) e2)

/-- The residual stream after the mixers. -/
def stream : FVec Ideal S2x16384x2048 .f32 :=
  addf x (Host.dotGeneral dot_S2x16384x2048_S2048x2048_S2x16384x2048_2_0_01_1_n_n none (mixed hf hb op on yb yc) w)

theorem stream_apply (b : Fin 2) (s : Fin 16384) (d : Fin 2048) :
    stream x hf hb op on yb yc w (ix3 b s d) = newAt x hf hb op on yb yc w b s d := by
  have e : stream x hf hb op on yb yc w (ix3 b s d) = (x (ix3 b s d) : EReal) + ∑ i : Fin 2048, (mixed hf hb op on yb yc (ix3 b s i) : EReal) * w (ix2 i d) := by
    pointwise [stream]
  rw [e, sum_mixers]
  unfold newAt
  simp only [mixed_a, mixed_b, mixed_c, gated_apply]

/-- The stream normalised for the feed-forward layer. -/
def streamNorm : FVec Ideal S2x16384x2048 .f32 :=
  mulf (mulf (stream x hf hb op on yb yc w) (broadcastInDim S2x16384x2048 ![0, 1, 2] bcast_S2x16384x1_S2x16384x2048_0_1_2 (Host.rsqrt (addf (Host.divf
    (broadcastInDim S2x16384x1 ![0, 1] bcast_S2x16384_S2x16384x1_0_1 (Host.reduceAdd (mulf (stream x hf hb op on yb yc w) (stream x hf hb op on yb yc w))
      (constant S_ .f32 0x00000000#32) reducesTo_S2x16384x2048_S2x16384_d2 h_S_)) (broadcastInDim S2x16384x1 ![] bcast_S_S2x16384x1 (constant S_ .f32 0x45000000#32)))
    (broadcastInDim S2x16384x1 ![] bcast_S_S2x16384x1 (constant S_ .f32 0x358637BD#32))))))
    (broadcastInDim S2x16384x2048 ![0, 1, 2] bcast_S1x1x2048_S2x16384x2048_0_1_2 (broadcastInDim S1x1x2048 ![2] bcast_S2048_S1x1x2048_2 g))

theorem streamNorm_apply (b : Fin 2) (s : Fin 16384) (d : Fin 2048) :
    streamNorm x hf hb op on yb yc w g (ix3 b s d) = normAt x hf hb op on yb yc w g b s d := by
  unfold normAt rmsAt eps
  rw [← div_2048]
  simp only [← stream_apply]
  pointwise [streamNorm]

theorem first_apply (R : Fin 32768) (d : Fin 2048) :
    (shapeCast S32768x2048 (stream x hf hb op on yb yc w) shapeCasts_S2x16384x2048_S32768x2048 : FVec Ideal S32768x2048 .f32) (ix2 R d)
      = newAt x hf hb op on yb yc w (⟨R.val / 16384, by omega⟩ : Fin 2) (⟨R.val % 16384, by omega⟩ : Fin 16384) d := by
  rw [← stream_apply]
  pointwise []

theorem second_apply (R : Fin 32768) (d : Fin 2048) :
    (truncf .bf16 (shapeCast S32768x2048 (streamNorm x hf hb op on yb yc w g) shapeCasts_S2x16384x2048_S32768x2048 : FVec Ideal S32768x2048 .f32) bitsLt_bf16_f32
      : FVec Ideal S32768x2048 .bf16) (ix2 R d)
      = normAt x hf hb op on yb yc w g (⟨R.val / 16384, by omega⟩ : Fin 2) (⟨R.val % 16384, by omega⟩ : Fin 16384) d := by
  rw [← streamNorm_apply]
  pointwise []

/-- The first result. -/
theorem first : shapeCast S32768x2048 (stream x hf hb op on yb yc w) shapeCasts_S2x16384x2048_S32768x2048 = newRows x hf hb op on yb yc w := by
  funext i
  have hi : i = ix2 (i 0) (i 1) := by funext a; fin_cases a <;> rfl
  rw [hi]
  exact first_apply x hf hb op on yb yc w (i 0) (i 1)

/-- The second result. -/
theorem second : (truncf .bf16 (shapeCast S32768x2048 (streamNorm x hf hb op on yb yc w g) shapeCasts_S2x16384x2048_S32768x2048 : FVec Ideal S32768x2048 .f32) bitsLt_bf16_f32
    : FVec Ideal S32768x2048 .bf16) = normRows x hf hb op on yb yc w g := by
  funext i
  have hi : i = ix2 (i 0) (i 1) := by funext a; fin_cases a <;> rfl
  rw [hi]
  exact second_apply x hf hb op on yb yc w g (i 0) (i 1)

end Cert.Reference3Ideal.Out

end
-- ==== Proof.CastValue.lean ====
/- The cast of a layer's weights: the array the call leaves, and the same written plainly. -/
module

public import Idealize.ShloMosaic.Lib.IdealHost
public import Idealize.ShloMosaic.Lib.Pipeline.ValueKit
public import proofs.«01_k».proof.Proof.Gen.Kernel4Ideal.Value
public import proofs.«01_k».proof.Proof.Gen.Reference4Ideal.Run

@[expose] public section

set_option maxRecDepth 16384

noncomputable section

namespace Cert.Kernel4Ideal.Cast

open Idealize.ShloMosaic Idealize.ShloMosaic.TcCoe Idealize.SL.Sem Idealize.ShloMosaic.StableHlo
open Cert.Kernel4Ideal Cert.Kernel4Ideal.Gen

/-- The second layer's weights. -/
def layer (w : FVec Ideal S2x2048x8192 .f32) : FVec Ideal S2048x8192 .bf16 := fun i =>
  w (ix3 (1 : Fin 2) (⟨(i 0).val, (i 0).isLt⟩ : Fin 2048) (⟨(i 1).val, (i 1).isLt⟩ : Fin 8192))

theorem pay1_apply (v : FVec Ideal S1x256x8192 .f32) (p : Fin 256) (q : Fin 8192) :
    (k0_pay1 (F := Ideal) v (ix2 p q) : EReal) = v (ix3 (0 : Fin 1) p q) := by
  pointwise [k0_pay1]

/-- Where the windows sit. -/
theorem idx : ∀ t : Fin cfg0.N, win0_0.index t = ![1, t.val, 0] ∧ win0_1.index t = ![t.val, 0] :=
  (by decide +kernel : ∀ t : Fin grid0.N, _)

variable (m : (ℓ : Loc nD τ sig) → Buf (Elt Ideal) ℓ) (c : Dev nD)

/-- The weights of both layers. -/
abbrev argW : FVec Ideal S2x2048x8192 .f32 := m ((c.tc : Thread nD τ).loc main_arg0)

theorem read_w (t : Fin cfg0.N) (p : Fin 256) (q : Fin 8192) (R : Fin 2048) (hR : R.val = t.val * 256 + p.val) :
    (iblk m c 0 t : FVec Ideal S1x256x8192 .f32) (ix3 (0 : Fin 1) p q) = argW m c (ix3 (1 : Fin 2) R q) := by
  have e : (iblk m c 0 t : FVec Ideal S1x256x8192 .f32) (ix3 (0 : Fin 1) p q) = (V m c main_arg0 : FVec Ideal S2x2048x8192 .f32) (ix3 (1 : Fin 2) R q) := by
    blk_ext [iblk, idx t]
  rw [e, V_main_arg0]

theorem block_at (t : Fin cfg0.N) (y : S256x8192.Idx) (R : Fin 2048) (q : Fin 8192)
    (hR : R.val = t.val * 256 + (y 0).val) (hq : q.val = (y 1).val) :
    (out0_1 (F := Ideal) (iblk m c 0 t) y : EReal) = argW m c (ix3 (1 : Fin 2) R q) := by
  obtain ⟨p, q', rfl⟩ : ∃ (p : Fin 256) (q : Fin 8192), y = ix2 p q := ⟨y 0, y 1, by funext a; fin_cases a <;> rfl⟩
  obtain rfl : q' = q := Fin.ext hq.symm
  refine Eq.trans ?_ ((pay1_apply (iblk m c 0 t) p q').trans (read_w m c t p q' R hR))
  unfold out0_1
  canon_tiles x hx
  have hv : (View.ld (Val := Elt Ideal) (e' := .f32) (iblk m c 0 t : Vec Ideal S1x256x8192 .f32) r0_0 : Vec Ideal S1x256x8192 .f32) = iblk m c 0 t :=
    funext fun i => View.ld_unit_apply_of _ _ _ _ _ _ fun a => by fin_cases a <;> simp
  refine congrArg₂ (fun (v : Vec Ideal S1x256x8192 .f32) (i : S256x8192.Idx) => k0_pay1 (F := Ideal) v i) hv (funext fun a => Fin.ext ?_)
  fin_cases a
  · exact hx0.symm
  · exact hx1.symm

/-- The call leaves the second layer's weights. -/
theorem final : (dats m 0 c).arrAt 1 cfg0.N = layer (argW m c) := by
  refine (dats m 0 c).arrAt_eq_of_covers 1 _ (by decide +kernel) fun t _ y => ?_
  blk_simp
  rw [after0_1]
  have e0 : ((((cfg0.win 1).blk t).view.emb y) 0).val = t.val * 256 + (y 0).val := by
    blk_simp [idx t]
  have e1 : ((((cfg0.win 1).blk t).view.emb y) 1).val = (y 1).val := by
    blk_simp [idx t]
  exact block_at m c t y _ _ e0 e1

end Cert.Kernel4Ideal.Cast

namespace Cert.Reference4Ideal.Cast

open Idealize.ShloMosaic Idealize.ShloMosaic.TcCoe Cert.Reference4Ideal Cert.Reference4Ideal.Gen

variable (w : FVec Ideal S2x2048x8192 .f32)

theorem layer_apply (p : Fin 2048) (q : Fin 8192) :
    (truncf .bf16 (shapeCast S2048x8192 (extractStridedSlice S1x2048x8192 ![1, 0, 0] w slices_S2x2048x8192_S1x2048x8192_1_0_0 : FVec Ideal S1x2048x8192 .f32)
      shapeCasts_S1x2048x8192_S2048x8192 : FVec Ideal S2048x8192 .f32) bitsLt_bf16_f32 : FVec Ideal S2048x8192 .bf16) (ix2 p q)
      = w (ix3 (1 : Fin 2) p q) := by
  pointwise []

/-- The plain cast of the second layer's weights. -/
theorem layer_eq : (truncf .bf16 (shapeCast S2048x8192 (extractStridedSlice S1x2048x8192 ![1, 0, 0] w slices_S2x2048x8192_S1x2048x8192_1_0_0 : FVec Ideal S1x2048x8192 .f32)
    shapeCasts_S1x2048x8192_S2048x8192 : FVec Ideal S2048x8192 .f32) bitsLt_bf16_f32 : FVec Ideal S2048x8192 .bf16) = Cert.Kernel4Ideal.Cast.layer w := by
  funext i
  have hi : i = ix2 (i 0) (i 1) := by funext a; fin_cases a <;> rfl
  rw [hi]
  exact layer_apply w (i 0) (i 1)

end Cert.Reference4Ideal.Cast

end
-- ==== Proof.InPoint.lean ====
/- The input projection's results for the memory, as functions of its arguments, and the products of one block. -/
module

public import proofs.«01_k».proof.Proof.OutPoint
public import proofs.«01_k».proof.Proof.Gen.Kernel5Ideal.Frame.Runs
public import Idealize.ShloMosaic.Lib.StableHlo.RunRead

@[expose] public section

set_option maxRecDepth 16384

noncomputable section

namespace Cert.Kernel5Ideal.In

open Idealize.ShloMosaic Idealize.ShloMosaic.TcCoe Idealize.SL.Sem Idealize.ShloMosaic.StableHlo
open Cert.Kernel5Ideal Cert.Kernel5Ideal.Gen
open Cert.Kernel3Ideal.Out (rmsAt eps r2048 div_2048)

/-- The number the queries are multiplied by. -/
def qScale : EReal := Ideal.ofBits .f32 0x3E000000#32

section Body

variable (x : FVec Ideal S512x2048 .f32) (g : FVec Ideal S1x2048 .f32) (h : FVec Ideal S512x2048 .bf16)
  (u : FVec Ideal S2048x256 .bf16) (v : FVec Ideal S2048x512 .bf16) (p : Fin 512) (a : Fin 256) (e : Fin 512)

/-- A row, normalised. -/
theorem pay4_apply (k : Fin 2048) : (k0_pay4 (F := Ideal) x g (ix2 p k) : EReal)
    = rmsAt r2048 (fun d : Fin 2048 => (x (ix2 p d) : EReal)) (g (ix2 (0 : Fin 1) k)) k := by
  unfold rmsAt eps r2048
  pointwise [k0_pay4]

/-- The queries. -/
theorem pay2_apply : (k0_pay2 (F := Ideal) h u (ix2 p a) : EReal) = (∑ k : Fin 2048, (h (ix2 p k) : EReal) * u (ix2 k a)) * qScale := by
  unfold qScale
  pointwise [k0_pay2]

/-- The keys, a position to a column. -/
theorem pay80_apply : (k0_pay80 (F := Ideal) h u (ix2 a p) : EReal) = ∑ k : Fin 2048, (h (ix2 p k) : EReal) * u (ix2 k a) := by
  pointwise [k0_pay80]

/-- The values. -/
theorem pay3_apply : (k0_pay3 (F := Ideal) h v (ix2 p e) : EReal) = ∑ k : Fin 2048, (h (ix2 p k) : EReal) * v (ix2 k e) := by
  pointwise [k0_pay3]

/-- The gates on the memory's output. -/
theorem pay81_apply : (k0_pay81 (F := Ideal) h v (ix2 p e) : EReal)
    = Ideal.div 1 (1 + Ideal.exp (-(∑ k : Fin 2048, (h (ix2 p k) : EReal) * v (ix2 k e)))) := by
  have e : (k0_pay81 (F := Ideal) h v (ix2 p e) : EReal) = Ideal.logistic (∑ k : Fin 2048, (h (ix2 p k) : EReal) * v (ix2 k e)) := by
    pointwise [k0_pay81]
  exact e

end Body

section Entry

variable {F : FTy → Type} [FloatOps F]
variable (m : (ℓ : Loc nD τ sig) → Buf (Elt F) ℓ) (c : Dev nD)

/-- The weights as the call takes them: the columns of each result side by side, those of the gates and of the keys' and values' latent padded. -/
def packed (w : FVec F S2048x4432 .f32) : FVec F S2048x4608 .bf16 :=
  truncf .bf16 (concatenate S2048x4608 1 [
    ⟨S2048x256, extractStridedSlice S2048x256 ![0, 0] w slices_S2048x4432_S2048x256_0_0⟩,
    ⟨S2048x256, extractStridedSlice S2048x256 ![0, 256] w slices_S2048x4432_S2048x256_0_256⟩,
    ⟨S2048x512, extractStridedSlice S2048x512 ![0, 512] w slices_S2048x4432_S2048x512_0_512⟩,
    ⟨S2048x512, extractStridedSlice S2048x512 ![0, 1024] w slices_S2048x4432_S2048x512_0_1024⟩,
    ⟨S2048x128, pad S2048x128 ![0, 0] ![0, 112] ![0, 0] (extractStridedSlice S2048x16 ![0, 1536] w slices_S2048x4432_S2048x16_0_1536)
      (sitofp .f32 (constantI S_ 32 0#32)) pads_S2048x16_S2048x128_000_01120 h_S_⟩,
    ⟨S2048x384, extractStridedSlice S2048x384 ![0, 1552] w slices_S2048x4432_S2048x384_0_1552⟩,
    ⟨S2048x256, pad S2048x256 ![0, 0] ![0, 64] ![0, 0] (extractStridedSlice S2048x192 ![0, 1936] w slices_S2048x4432_S2048x192_0_1936)
      (sitofp .f32 (constantI S_ 32 0#32)) pads_S2048x192_S2048x256_000_0640 h_S_⟩,
    ⟨S2048x768, extractStridedSlice S2048x768 ![0, 2128] w slices_S2048x4432_S2048x768_0_2128⟩,
    ⟨S2048x768, extractStridedSlice S2048x768 ![0, 2896] w slices_S2048x4432_S2048x768_0_2896⟩,
    ⟨S2048x768, extractStridedSlice S2048x768 ![0, 3664] w slices_S2048x4432_S2048x768_0_3664⟩]
    concatenates_S2048x256_S2048x256_S2048x512_S2048x512_S2048x128_S2048x384_S2048x256_S2048x768_S2048x768_S2048x768_S2048x4608_d1) bitsLt_bf16_f32

theorem V_x : V m c main_v93 = shapeCast S32768x2048 (m ((c.tc : Thread nD τ).loc main_arg0)) shapeCasts_S2x16384x2048_S32768x2048 := by
  simp only [V, List.flatten_cons, List.flatten_nil, List.append_nil, List.cons_append, List.nil_append]
  after_reads_simp
  rfl

theorem V_g : V m c main_v94 = (broadcastInDim S1x2048 ![1] bcast_S2048_S1x2048_1 (m ((c.tc : Thread nD τ).loc main_arg1)) : FVec F S1x2048 .f32) := by
  simp only [V, List.flatten_cons, List.flatten_nil, List.append_nil, List.cons_append, List.nil_append]
  after_reads_simp

set_option maxHeartbeats 4000000 in
theorem V_w : V m c main_v59 = packed (F := F) (m ((c.tc : Thread nD τ).loc main_arg2)) := by
  simp only [V, List.flatten_cons, List.flatten_nil, List.append_nil, List.cons_append, List.nil_append]
  after_results <;> rfl

end Entry

section Read

variable (w : FVec Ideal S2048x4432 .f32) (k : Fin 2048)

/-- The first columns are where they were. -/
theorem packed_q (a : Fin 256) : packed w (ix2 k (⟨a.val, by omega⟩ : Fin 4608)) = w (ix2 k (⟨a.val, by omega⟩ : Fin 4432)) := by
  pointwise [packed]
theorem packed_k (a : Fin 256) : packed w (ix2 k (⟨256 + a.val, by omega⟩ : Fin 4608)) = w (ix2 k (⟨256 + a.val, by omega⟩ : Fin 4432)) := by
  pointwise [packed]
theorem packed_v (e : Fin 512) : packed w (ix2 k (⟨512 + e.val, by omega⟩ : Fin 4608)) = w (ix2 k (⟨512 + e.val, by omega⟩ : Fin 4432)) := by
  pointwise [packed]
  rw [dif_neg (by omega), dif_neg (by omega), dif_pos (by omega)]
  exact congrArg (fun i : Fin 4432 => w (ix2 k i)) (Fin.ext (by show 512 + (512 + e.val - 256 - 256) = 512 + e.val; omega))
theorem packed_o (e : Fin 512) : packed w (ix2 k (⟨1024 + e.val, by omega⟩ : Fin 4608)) = w (ix2 k (⟨1024 + e.val, by omega⟩ : Fin 4432)) := by
  pointwise [packed]
  rw [dif_neg (by omega), dif_neg (by omega), dif_neg (by omega), dif_pos (by omega)]
  exact congrArg (fun i : Fin 4432 => w (ix2 k i)) (Fin.ext (by show 1024 + (1024 + e.val - 256 - 256 - 512) = 1024 + e.val; omega))

end Read

section Spec

variable (x : FVec Ideal S2x16384x2048 .f32) (g : FVec Ideal S2048 .f32) (w : FVec Ideal S2048x4432 .f32)

/-- Column `C` of the normalised stream's projection. -/
def projAt (b : Fin 2) (s : Fin 16384) (C : Fin 4432) : EReal :=
  ∑ k : Fin 2048, rmsAt r2048 (fun d : Fin 2048 => (x (ix3 b s d) : EReal)) (g (ix1 k)) k * w (ix2 k C)

/-- The same at a position's row, both batches' positions in one order. -/
def rowAt (R : Fin 32768) (C : Fin 4432) : EReal :=
  projAt x g w (⟨R.val / 16384, by omega⟩ : Fin 2) (⟨R.val % 16384, by omega⟩ : Fin 16384) C

/-- The queries. -/
def queries : FVec Ideal S32768x256 .bf16 := fun i =>
  rowAt x g w (⟨(i 0).val, (i 0).isLt⟩ : Fin 32768) (⟨(i 1).val, by have : (i 1).val < 256 := (i 1).isLt; omega⟩ : Fin 4432) * qScale

/-- The keys, a position to a column. -/
def keys : FVec Ideal S256x32768 .bf16 := fun i =>
  rowAt x g w (⟨(i 1).val, (i 1).isLt⟩ : Fin 32768) (⟨256 + (i 0).val, by have : (i 0).val < 256 := (i 0).isLt; omega⟩ : Fin 4432)

/-- The values. -/
def values : FVec Ideal S32768x512 .bf16 := fun i =>
  rowAt x g w (⟨(i 0).val, (i 0).isLt⟩ : Fin 32768) (⟨512 + (i 1).val, by have : (i 1).val < 512 := (i 1).isLt; omega⟩ : Fin 4432)

/-- The gates on the memory's output. -/
def opens : FVec Ideal S32768x512 .bf16 := fun i =>
  Ideal.div 1 (1 + Ideal.exp (-(rowAt x g w (⟨(i 0).val, (i 0).isLt⟩ : Fin 32768) (⟨1024 + (i 1).val, by have : (i 1).val < 512 := (i 1).isLt; omega⟩ : Fin 4432))))

end Spec

end Cert.Kernel5Ideal.In

end
-- ==== Proof.InFinal.lean ====
/- The arrays the input projection's call leaves for the memory, from its blocks. -/
module

public import proofs.«01_k».proof.Proof.InPoint
public import proofs.«01_k».proof.Proof.Gen.Kernel5Ideal.Value

@[expose] public section

set_option maxRecDepth 16384

noncomputable section

namespace Cert.Kernel5Ideal.In

open Idealize.ShloMosaic Idealize.ShloMosaic.TcCoe Idealize.SL.Sem Idealize.ShloMosaic.StableHlo
open Cert.Kernel5Ideal Cert.Kernel5Ideal.Gen
open Cert.Kernel3Ideal.Out (rmsAt eps r2048 div_2048)

/-- Where the windows sit. -/
theorem idx : ∀ t : Fin cfg0.N, win0_0.index t = ![t.val, 0] ∧ win0_1.index t = ![0, 0] ∧ win0_2.index t = ![0, 0]
    ∧ win0_13.index t = ![t.val, 0] ∧ win0_14.index t = ![0, t.val] ∧ win0_15.index t = ![t.val, 0] ∧ win0_16.index t = ![t.val, 0] :=
  (by decide +kernel : ∀ t : Fin grid0.N, _)

section Load

variable (y : Vec Ideal S2048x4608 .bf16) (k : Fin 2048)
theorem cols_q (a : Fin 256) : (View.ld (Val := Elt Ideal) (e' := .bf16) y (Rect.unit (s := S2048x4608) ![0, 0] S2048x256.size inb_S2048x4608_S2048x256_0_0) : FVec Ideal S2048x256 .bf16) (ix2 k a)
    = y (ix2 k (⟨a.val, by omega⟩ : Fin 4608)) :=
  View.ld_unit_apply_of _ _ _ _ _ _ fun a => by fin_cases a <;> simp
theorem cols_k (a : Fin 256) : (View.ld (Val := Elt Ideal) (e' := .bf16) y (Rect.unit (s := S2048x4608) ![0, 256] S2048x256.size inb_S2048x4608_S2048x256_0_256) : FVec Ideal S2048x256 .bf16) (ix2 k a)
    = y (ix2 k (⟨256 + a.val, by omega⟩ : Fin 4608)) :=
  View.ld_unit_apply_of _ _ _ _ _ _ fun a => by fin_cases a <;> simp
theorem cols_v (e : Fin 512) : (View.ld (Val := Elt Ideal) (e' := .bf16) y (Rect.unit (s := S2048x4608) ![0, 512] S2048x512.size inb_S2048x4608_S2048x512_0_512) : FVec Ideal S2048x512 .bf16) (ix2 k e)
    = y (ix2 k (⟨512 + e.val, by omega⟩ : Fin 4608)) :=
  View.ld_unit_apply_of _ _ _ _ _ _ fun a => by fin_cases a <;> simp
theorem cols_o (e : Fin 512) : (View.ld (Val := Elt Ideal) (e' := .bf16) y (Rect.unit (s := S2048x4608) ![0, 1024] S2048x512.size inb_S2048x4608_S2048x512_0_1024) : FVec Ideal S2048x512 .bf16) (ix2 k e)
    = y (ix2 k (⟨1024 + e.val, by omega⟩ : Fin 4608)) :=
  View.ld_unit_apply_of _ _ _ _ _ _ fun a => by fin_cases a <;> simp

end Load

section Read

theorem rows_apply (y : FVec Ideal S2x16384x2048 .f32) (R : Fin 32768) (d : Fin 2048) :
    (shapeCast S32768x2048 y shapeCasts_S2x16384x2048_S32768x2048 : FVec Ideal S32768x2048 .f32) (ix2 R d)
      = y (ix3 (⟨R.val / 16384, by omega⟩ : Fin 2) (⟨R.val % 16384, by omega⟩ : Fin 16384) d) := by
  pointwise []

theorem gain_apply (y : FVec Ideal S2048 .f32) (d : Fin 2048) :
    (broadcastInDim S1x2048 ![1] bcast_S2048_S1x2048_1 y : FVec Ideal S1x2048 .f32) (ix2 (0 : Fin 1) d) = y (ix1 d) := by
  pointwise []

variable (m : (ℓ : Loc nD τ sig) → Buf (Elt Ideal) ℓ) (c : Dev nD) (t : Fin cfg0.N)

/-- The arguments, at their types. -/
abbrev argX : FVec Ideal S2x16384x2048 .f32 := m ((c.tc : Thread nD τ).loc main_arg0)
abbrev argG : FVec Ideal S2048 .f32 := m ((c.tc : Thread nD τ).loc main_arg1)
abbrev argW : FVec Ideal S2048x4432 .f32 := m ((c.tc : Thread nD τ).loc main_arg2)

theorem read_x (p : Fin 512) (R : Fin 32768) (hR : R.val = t.val * 512 + p.val) (d : Fin 2048) : (iblk m c 0 t : FVec Ideal S512x2048 .f32) (ix2 p d)
    = argX m c (ix3 (⟨R.val / 16384, by omega⟩ : Fin 2) (⟨R.val % 16384, by omega⟩ : Fin 16384) d) := by
  have e : (iblk m c 0 t : FVec Ideal S512x2048 .f32) (ix2 p d) = (V m c main_v93 : FVec Ideal S32768x2048 .f32) (ix2 R d) := by
    blk_ext [iblk, idx t]
  rw [e, V_x]
  exact rows_apply _ R d

theorem read_g (d : Fin 2048) : (iblk m c 1 t : FVec Ideal S1x2048 .f32) (ix2 (0 : Fin 1) d) = argG m c (ix1 d) := by
  have e : (iblk m c 1 t : FVec Ideal S1x2048 .f32) (ix2 (0 : Fin 1) d) = (V m c main_v94 : FVec Ideal S1x2048 .f32) (ix2 (0 : Fin 1) d) := by
    blk_ext [iblk, idx t]
  rw [e, V_g]
  exact gain_apply _ d

theorem read_w (k : Fin 2048) (C : Fin 4608) : (iblk m c 2 t : FVec Ideal S2048x4608 .bf16) (ix2 k C) = packed (F := Ideal) (argW m c) (ix2 k C) := by
  have e : (iblk m c 2 t : FVec Ideal S2048x4608 .bf16) (ix2 k C) = (V m c main_v59 : FVec Ideal S2048x4608 .bf16) (ix2 k C) := by
    blk_ext [iblk, idx t]
  rw [e, V_w]

end Read

section Block

variable (m : (ℓ : Loc nD τ sig) → Buf (Elt Ideal) ℓ) (c : Dev nD) (t : Fin cfg0.N)

/-- The block's rows, normalised, as the products take them. -/
abbrev hBlk : FVec Ideal S512x2048 .bf16 := k0_pay4 (F := Ideal) (iblk m c 0 t : Vec Ideal S512x2048 .f32) (iblk m c 1 t : Vec Ideal S1x2048 .f32)

theorem hBlk_apply (p : Fin 512) (R : Fin 32768) (hR : R.val = t.val * 512 + p.val) (k : Fin 2048) : (hBlk m c t (ix2 p k) : EReal)
    = rmsAt r2048 (fun d : Fin 2048 => (argX m c (ix3 (⟨R.val / 16384, by omega⟩ : Fin 2) (⟨R.val % 16384, by omega⟩ : Fin 16384) d) : EReal)) (argG m c (ix1 k)) k := by
  unfold hBlk
  rw [pay4_apply, read_g]
  exact congrArg (fun f : Fin 2048 → EReal => rmsAt r2048 f (argG m c (ix1 k)) k) (funext fun d => read_x m c t p R hR d)

theorem row_apply (p : Fin 512) (R : Fin 32768) (hR : R.val = t.val * 512 + p.val) (f : Fin 2048 → EReal) (C : Fin 4432)
    (hf : ∀ k : Fin 2048, f k = argW m c (ix2 k C)) :
    (∑ k : Fin 2048, (hBlk m c t (ix2 p k) : EReal) * f k) = rowAt (argX m c) (argG m c) (argW m c) R C := by
  unfold rowAt projAt
  exact Finset.sum_congr rfl fun k _ => congrArg₂ (· * ·) (hBlk_apply m c t p R hR k) (hf k)

theorem block_q (p : Fin 512) (a : Fin 256) (R : Fin 32768) (hR : R.val = t.val * 512 + p.val) :
    (k0_pay2 (F := Ideal) (hBlk m c t) (View.ld (Val := Elt Ideal) (e' := .bf16) (iblk m c 2 t : Vec Ideal S2048x4608 .bf16)
      (Rect.unit (s := S2048x4608) ![0, 0] S2048x256.size inb_S2048x4608_S2048x256_0_0)) (ix2 p a) : EReal)
      = rowAt (argX m c) (argG m c) (argW m c) R (⟨a.val, by omega⟩ : Fin 4432) * qScale := by
  rw [pay2_apply]
  exact congrArg (· * qScale) (row_apply m c t p R hR _ _ fun k => (cols_q _ k a).trans ((read_w m c t k _).trans (packed_q _ k a)))

theorem block_k (p : Fin 512) (a : Fin 256) (R : Fin 32768) (hR : R.val = t.val * 512 + p.val) :
    (k0_pay80 (F := Ideal) (hBlk m c t) (View.ld (Val := Elt Ideal) (e' := .bf16) (iblk m c 2 t : Vec Ideal S2048x4608 .bf16)
      (Rect.unit (s := S2048x4608) ![0, 256] S2048x256.size inb_S2048x4608_S2048x256_0_256)) (ix2 a p) : EReal)
      = rowAt (argX m c) (argG m c) (argW m c) R (⟨256 + a.val, by omega⟩ : Fin 4432) := by
  rw [pay80_apply]
  exact row_apply m c t p R hR _ _ fun k => (cols_k _ k a).trans ((read_w m c t k _).trans (packed_k _ k a))

theorem block_v (p : Fin 512) (e : Fin 512) (R : Fin 32768) (hR : R.val = t.val * 512 + p.val) :
    (k0_pay3 (F := Ideal) (hBlk m c t) (View.ld (Val := Elt Ideal) (e' := .bf16) (iblk m c 2 t : Vec Ideal S2048x4608 .bf16)
      (Rect.unit (s := S2048x4608) ![0, 512] S2048x512.size inb_S2048x4608_S2048x512_0_512)) (ix2 p e) : EReal)
      = rowAt (argX m c) (argG m c) (argW m c) R (⟨512 + e.val, by omega⟩ : Fin 4432) := by
  rw [pay3_apply]
  exact row_apply m c t p R hR _ _ fun k => (cols_v _ k e).trans ((read_w m c t k _).trans (packed_v _ k e))

theorem block_o (p : Fin 512) (e : Fin 512) (R : Fin 32768) (hR : R.val = t.val * 512 + p.val) :
    (k0_pay81 (F := Ideal) (hBlk m c t) (View.ld (Val := Elt Ideal) (e' := .bf16) (iblk m c 2 t : Vec Ideal S2048x4608 .bf16)
      (Rect.unit (s := S2048x4608) ![0, 1024] S2048x512.size inb_S2048x4608_S2048x512_0_1024)) (ix2 p e) : EReal)
      = Ideal.div 1 (1 + Ideal.exp (-(rowAt (argX m c) (argG m c) (argW m c) R (⟨1024 + e.val, by omega⟩ : Fin 4432)))) := by
  rw [pay81_apply]
  exact congrArg (fun z => Ideal.div 1 (1 + Ideal.exp (-z))) (row_apply m c t p R hR _ _ fun k => (cols_o _ k e).trans ((read_w m c t k _).trans (packed_o _ k e)))

end Block

section Final

variable (m : (ℓ : Loc nD τ sig) → Buf (Elt Ideal) ℓ) (c : Dev nD)

/-- Any entry `y` of the block, by the position's row and the column it lies at. -/
theorem block_q_at (t : Fin cfg0.N) (y : S512x256.Idx) (R : Fin 32768) (C : Fin 256)
    (hR : R.val = t.val * 512 + (y 0).val) (hC : C.val = (y 1).val) :
    (k0_pay2 (F := Ideal) (hBlk m c t) (View.ld (Val := Elt Ideal) (e' := .bf16) (iblk m c 2 t : Vec Ideal S2048x4608 .bf16)
      (Rect.unit (s := S2048x4608) ![0, 0] S2048x256.size inb_S2048x4608_S2048x256_0_0)) y : EReal)
      = rowAt (argX m c) (argG m c) (argW m c) R (⟨C.val, by omega⟩ : Fin 4432) * qScale := by
  obtain ⟨p, q, rfl⟩ : ∃ (p : Fin 512) (q : Fin 256), y = ix2 p q := ⟨y 0, y 1, by funext a; fin_cases a <;> rfl⟩
  obtain rfl : q = C := Fin.ext hC.symm
  exact block_q m c t p q R hR

/-- Any entry `y` of the block, by the position's row and the column it lies at. -/
theorem block_k_at (t : Fin cfg0.N) (y : S256x512.Idx) (R : Fin 32768) (C : Fin 256)
    (hR : R.val = t.val * 512 + (y 1).val) (hC : C.val = (y 0).val) :
    (k0_pay80 (F := Ideal) (hBlk m c t) (View.ld (Val := Elt Ideal) (e' := .bf16) (iblk m c 2 t : Vec Ideal S2048x4608 .bf16)
      (Rect.unit (s := S2048x4608) ![0, 256] S2048x256.size inb_S2048x4608_S2048x256_0_256)) y : EReal)
      = rowAt (argX m c) (argG m c) (argW m c) R (⟨256 + C.val, by omega⟩ : Fin 4432) := by
  obtain ⟨p, q, rfl⟩ : ∃ (p : Fin 256) (q : Fin 512), y = ix2 p q := ⟨y 0, y 1, by funext a; fin_cases a <;> rfl⟩
  obtain rfl : p = C := Fin.ext hC.symm
  exact block_k m c t q p R hR

/-- Any entry `y` of the block, by the position's row and the column it lies at. -/
theorem block_v_at (t : Fin cfg0.N) (y : S512x512.Idx) (R : Fin 32768) (C : Fin 512)
    (hR : R.val = t.val * 512 + (y 0).val) (hC : C.val = (y 1).val) :
    (k0_pay3 (F := Ideal) (hBlk m c t) (View.ld (Val := Elt Ideal) (e' := .bf16) (iblk m c 2 t : Vec Ideal S2048x4608 .bf16)
      (Rect.unit (s := S2048x4608) ![0, 512] S2048x512.size inb_S2048x4608_S2048x512_0_512)) y : EReal)
      = rowAt (argX m c) (argG m c) (argW m c) R (⟨512 + C.val, by omega⟩ : Fin 4432) := by
  obtain ⟨p, q, rfl⟩ : ∃ (p : Fin 512) (q : Fin 512), y = ix2 p q := ⟨y 0, y 1, by funext a; fin_cases a <;> rfl⟩
  obtain rfl : q = C := Fin.ext hC.symm
  exact block_v m c t p q R hR

/-- Any entry `y` of the block, by the position's row and the column it lies at. -/
theorem block_o_at (t : Fin cfg0.N) (y : S512x512.Idx) (R : Fin 32768) (C : Fin 512)
    (hR : R.val = t.val * 512 + (y 0).val) (hC : C.val = (y 1).val) :
    (k0_pay81 (F := Ideal) (hBlk m c t) (View.ld (Val := Elt Ideal) (e' := .bf16) (iblk m c 2 t : Vec Ideal S2048x4608 .bf16)
      (Rect.unit (s := S2048x4608) ![0, 1024] S2048x512.size inb_S2048x4608_S2048x512_0_1024)) y : EReal)
      = Ideal.div 1 (1 + Ideal.exp (-(rowAt (argX m c) (argG m c) (argW m c) R (⟨1024 + C.val, by omega⟩ : Fin 4432)))) := by
  obtain ⟨p, q, rfl⟩ : ∃ (p : Fin 512) (q : Fin 512), y = ix2 p q := ⟨y 0, y 1, by funext a; fin_cases a <;> rfl⟩
  obtain rfl : q = C := Fin.ext hC.symm
  exact block_o m c t p q R hR

/-- The call leaves the queries. -/
theorem final_q : (dats m 0 c).arrAt 13 cfg0.N = queries (argX m c) (argG m c) (argW m c) := by
  refine (dats m 0 c).arrAt_eq_of_covers 13 _ (by decide +kernel) fun t _ y => ?_
  blk_simp
  rw [after0_13]
  have e0 : ((((cfg0.win 13).blk t).view.emb y) 0).val = t.val * 512 + (y 0).val := by
    blk_simp [idx t]
  have e1 : ((((cfg0.win 13).blk t).view.emb y) 1).val = (y 1).val := by
    blk_simp [idx t]
  unfold outsAt0
  frame_out
  exact block_q_at m c t y (⟨_, ((((cfg0.win 13).blk t).view.emb y) 0).isLt⟩ : Fin 32768) (⟨_, ((((cfg0.win 13).blk t).view.emb y) 1).isLt⟩ : Fin 256) e0 e1

/-- The call leaves the keys. -/
theorem final_k : (dats m 0 c).arrAt 14 cfg0.N = keys (argX m c) (argG m c) (argW m c) := by
  refine (dats m 0 c).arrAt_eq_of_covers 14 _ (by decide +kernel) fun t _ y => ?_
  blk_simp
  rw [after0_14]
  have e0 : ((((cfg0.win 14).blk t).view.emb y) 1).val = t.val * 512 + (y 1).val := by
    blk_simp [idx t]
  have e1 : ((((cfg0.win 14).blk t).view.emb y) 0).val = (y 0).val := by
    blk_simp [idx t]
  unfold outsAt0
  frame_out
  exact block_k_at m c t y (⟨_, ((((cfg0.win 14).blk t).view.emb y) 1).isLt⟩ : Fin 32768) (⟨_, ((((cfg0.win 14).blk t).view.emb y) 0).isLt⟩ : Fin 256) e0 e1

/-- The call leaves the values. -/
theorem final_v : (dats m 0 c).arrAt 15 cfg0.N = values (argX m c) (argG m c) (argW m c) := by
  refine (dats m 0 c).arrAt_eq_of_covers 15 _ (by decide +kernel) fun t _ y => ?_
  blk_simp
  rw [after0_15]
  have e0 : ((((cfg0.win 15).blk t).view.emb y) 0).val = t.val * 512 + (y 0).val := by
    blk_simp [idx t]
  have e1 : ((((cfg0.win 15).blk t).view.emb y) 1).val = (y 1).val := by
    blk_simp [idx t]
  unfold outsAt0
  frame_out
  exact block_v_at m c t y (⟨_, ((((cfg0.win 15).blk t).view.emb y) 0).isLt⟩ : Fin 32768) (⟨_, ((((cfg0.win 15).blk t).view.emb y) 1).isLt⟩ : Fin 512) e0 e1

/-- The call leaves the gates on the memory's output. -/
theorem final_o : (dats m 0 c).arrAt 16 cfg0.N = opens (argX m c) (argG m c) (argW m c) := by
  refine (dats m 0 c).arrAt_eq_of_covers 16 _ (by decide +kernel) fun t _ y => ?_
  blk_simp
  rw [after0_16]
  have e0 : ((((cfg0.win 16).blk t).view.emb y) 0).val = t.val * 512 + (y 0).val := by
    blk_simp [idx t]
  have e1 : ((((cfg0.win 16).blk t).view.emb y) 1).val = (y 1).val := by
    blk_simp [idx t]
  unfold outsAt0
  frame_out
  exact block_o_at m c t y (⟨_, ((((cfg0.win 16).blk t).view.emb y) 0).isLt⟩ : Fin 32768) (⟨_, ((((cfg0.win 16).blk t).view.emb y) 1).isLt⟩ : Fin 512) e0 e1

end Final

section Run

variable {F : FTy → Type} [FloatOps F]
variable (m : (ℓ : Loc nD τ sig) → Buf (Elt F) ℓ) (ρ : Dev nD → PrngReg)

/-- Every run ends with the four results at the call's arrays and the arguments as they were. -/
theorem run : θ_run defs (onTc (τ := τ) (main (F := F))) ⟨m, fun _ => 0, ρ⟩ fun r => ∀ c : Dev nD,
      r.2.mem ((c.tc : Thread nD τ).loc main_v97_0) = (dats m 0 c).arrAt 13 cfg0.N
      ∧ r.2.mem ((c.tc : Thread nD τ).loc main_v97_1) = (dats m 0 c).arrAt 14 cfg0.N
      ∧ r.2.mem ((c.tc : Thread nD τ).loc main_v97_2) = (dats m 0 c).arrAt 15 cfg0.N
      ∧ r.2.mem ((c.tc : Thread nD τ).loc main_v97_3) = (dats m 0 c).arrAt 16 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun r h c => by
      obtain ⟨h0, h1, h2, h3, -, -, -, -, -, -, -, -, h⟩ := h c
      exact ⟨h0, h1, h2, h3, h⟩)
    (Value.run_blocks m ρ)

end Run

end Cert.Kernel5Ideal.In

end
-- ==== Proof.InRef.lean ====
/- The input projection's results for the memory written plainly, entry by entry. -/
module

public import proofs.«01_k».proof.Proof.InPoint
public import proofs.«01_k».proof.Proof.Gen.Reference5Ideal.Run

@[expose] public section

set_option maxRecDepth 16384

noncomputable section

namespace Cert.Reference5Ideal.In

open Idealize.ShloMosaic Idealize.ShloMosaic.TcCoe Cert.Reference5Ideal Cert.Reference5Ideal.Gen
open Cert.Kernel3Ideal.Out (rmsAt eps r2048 div_2048)
open Cert.Kernel5Ideal.In (qScale projAt rowAt queries keys values opens)

variable (x : FVec Ideal S2x16384x2048 .f32) (g : FVec Ideal S2048 .f32) (w : FVec Ideal S2048x4432 .f32)

/-- The normalised stream. -/
def normed : FVec Ideal S2x16384x2048 .f32 :=
  mulf (mulf x (broadcastInDim S2x16384x2048 ![0, 1, 2] bcast_S2x16384x1_S2x16384x2048_0_1_2 (Host.rsqrt (addf (Host.divf
    (broadcastInDim S2x16384x1 ![0, 1] bcast_S2x16384_S2x16384x1_0_1 (Host.reduceAdd (mulf x x) (constant S_ .f32 0x00000000#32) reducesTo_S2x16384x2048_S2x16384_d2 h_S_))
    (broadcastInDim S2x16384x1 ![] bcast_S_S2x16384x1 (constant S_ .f32 0x45000000#32))) (broadcastInDim S2x16384x1 ![] bcast_S_S2x16384x1 (constant S_ .f32 0x358637BD#32))))))
    (broadcastInDim S2x16384x2048 ![0, 1, 2] bcast_S1x1x2048_S2x16384x2048_0_1_2 (broadcastInDim S1x1x2048 ![2] bcast_S2048_S1x1x2048_2 g))

theorem normed_apply (b : Fin 2) (s : Fin 16384) (k : Fin 2048) :
    normed x g (ix3 b s k) = rmsAt r2048 (fun d : Fin 2048 => (x (ix3 b s d) : EReal)) (g (ix1 k)) k := by
  unfold rmsAt eps
  rw [← div_2048]
  pointwise [normed]

/-- Its projection. -/
def proj : FVec Ideal S2x16384x4432 .f32 :=
  Host.dotGeneral dot_S2x16384x2048_S2048x4432_S2x16384x4432_2_0_01_1_n_n none (normed x g) w

theorem proj_apply (b : Fin 2) (s : Fin 16384) (C : Fin 4432) : proj x g w (ix3 b s C) = projAt x g w b s C := by
  unfold projAt
  simp only [← normed_apply]
  pointwise [proj]

theorem q_apply (R : Fin 32768) (a : Fin 256) :
    (truncf .bf16 (shapeCast S32768x256 (mulf (extractStridedSlice S2x16384x256 ![0, 0, 0] (proj x g w) slices_S2x16384x4432_S2x16384x256_0_0_0)
      (broadcastInDim S2x16384x256 ![] bcast_S_S2x16384x256 (constant S_ .f32 0x3E000000#32)) : FVec Ideal S2x16384x256 .f32) shapeCasts_S2x16384x256_S32768x256 : FVec Ideal S32768x256 .f32)
      bitsLt_bf16_f32 : FVec Ideal S32768x256 .bf16) (ix2 R a) = rowAt x g w R (⟨a.val, by omega⟩ : Fin 4432) * qScale := by
  unfold rowAt qScale
  rw [← proj_apply]
  pointwise []

theorem k_apply (R : Fin 32768) (a : Fin 256) :
    (truncf .bf16 (transpose S256x32768 [1, 0] (shapeCast S32768x256 (extractStridedSlice S2x16384x256 ![0, 0, 256] (proj x g w) slices_S2x16384x4432_S2x16384x256_0_0_256 : FVec Ideal S2x16384x256 .f32)
      shapeCasts_S2x16384x256_S32768x256 : FVec Ideal S32768x256 .f32) transposes_S32768x256_S256x32768_1_0 : FVec Ideal S256x32768 .f32)
      bitsLt_bf16_f32 : FVec Ideal S256x32768 .bf16) (ix2 a R) = rowAt x g w R (⟨256 + a.val, by omega⟩ : Fin 4432) := by
  unfold rowAt
  rw [← proj_apply]
  pointwise []

theorem v_apply (R : Fin 32768) (e : Fin 512) :
    (truncf .bf16 (shapeCast S32768x512 (extractStridedSlice S2x16384x512 ![0, 0, 512] (proj x g w) slices_S2x16384x4432_S2x16384x512_0_0_512 : FVec Ideal S2x16384x512 .f32)
      shapeCasts_S2x16384x512_S32768x512 : FVec Ideal S32768x512 .f32)
      bitsLt_bf16_f32 : FVec Ideal S32768x512 .bf16) (ix2 R e) = rowAt x g w R (⟨512 + e.val, by omega⟩ : Fin 4432) := by
  unfold rowAt
  rw [← proj_apply]
  pointwise []

theorem o_apply (R : Fin 32768) (e : Fin 512) :
    (truncf .bf16 (shapeCast S32768x512 (Host.divf (broadcastInDim S2x16384x512 ![] bcast_S_S2x16384x512 (constant S_ .f32 0x3F800000#32))
      (addf (broadcastInDim S2x16384x512 ![] bcast_S_S2x16384x512 (constant S_ .f32 0x3F800000#32)) (Host.exp (Host.negf
        (extractStridedSlice S2x16384x512 ![0, 0, 1024] (proj x g w) slices_S2x16384x4432_S2x16384x512_0_0_1024)))) : FVec Ideal S2x16384x512 .f32)
      shapeCasts_S2x16384x512_S32768x512 : FVec Ideal S32768x512 .f32)
      bitsLt_bf16_f32 : FVec Ideal S32768x512 .bf16) (ix2 R e) = Ideal.div 1 (1 + Ideal.exp (-(rowAt x g w R (⟨1024 + e.val, by omega⟩ : Fin 4432)))) := by
  unfold rowAt
  rw [← proj_apply]
  pointwise []

/-- The queries. -/
theorem queries_eq : (truncf .bf16 (shapeCast S32768x256 (mulf (extractStridedSlice S2x16384x256 ![0, 0, 0] (proj x g w) slices_S2x16384x4432_S2x16384x256_0_0_0)
      (broadcastInDim S2x16384x256 ![] bcast_S_S2x16384x256 (constant S_ .f32 0x3E000000#32)) : FVec Ideal S2x16384x256 .f32) shapeCasts_S2x16384x256_S32768x256 : FVec Ideal S32768x256 .f32)
      bitsLt_bf16_f32 : FVec Ideal S32768x256 .bf16) = queries x g w := by
  funext i
  have hi : i = ix2 (i 0) (i 1) := by funext a; fin_cases a <;> rfl
  rw [hi]
  exact q_apply x g w (i 0) (i 1)

/-- The keys. -/
theorem keys_eq : (truncf .bf16 (transpose S256x32768 [1, 0] (shapeCast S32768x256 (extractStridedSlice S2x16384x256 ![0, 0, 256] (proj x g w) slices_S2x16384x4432_S2x16384x256_0_0_256 : FVec Ideal S2x16384x256 .f32)
      shapeCasts_S2x16384x256_S32768x256 : FVec Ideal S32768x256 .f32) transposes_S32768x256_S256x32768_1_0 : FVec Ideal S256x32768 .f32)
      bitsLt_bf16_f32 : FVec Ideal S256x32768 .bf16) = keys x g w := by
  funext i
  have hi : i = ix2 (i 0) (i 1) := by funext a; fin_cases a <;> rfl
  rw [hi]
  exact k_apply x g w (i 1) (i 0)

/-- The values. -/
theorem values_eq : (truncf .bf16 (shapeCast S32768x512 (extractStridedSlice S2x16384x512 ![0, 0, 512] (proj x g w) slices_S2x16384x4432_S2x16384x512_0_0_512 : FVec Ideal S2x16384x512 .f32)
      shapeCasts_S2x16384x512_S32768x512 : FVec Ideal S32768x512 .f32)
      bitsLt_bf16_f32 : FVec Ideal S32768x512 .bf16) = values x g w := by
  funext i
  have hi : i = ix2 (i 0) (i 1) := by funext a; fin_cases a <;> rfl
  rw [hi]
  exact v_apply x g w (i 0) (i 1)

/-- The gates on the memory's output. -/
theorem opens_eq : (truncf .bf16 (shapeCast S32768x512 (Host.divf (broadcastInDim S2x16384x512 ![] bcast_S_S2x16384x512 (constant S_ .f32 0x3F800000#32))
      (addf (broadcastInDim S2x16384x512 ![] bcast_S_S2x16384x512 (constant S_ .f32 0x3F800000#32)) (Host.exp (Host.negf
        (extractStridedSlice S2x16384x512 ![0, 0, 1024] (proj x g w) slices_S2x16384x4432_S2x16384x512_0_0_1024)))) : FVec Ideal S2x16384x512 .f32)
      shapeCasts_S2x16384x512_S32768x512 : FVec Ideal S32768x512 .f32)
      bitsLt_bf16_f32 : FVec Ideal S32768x512 .bf16) = opens x g w := by
  funext i
  have hi : i = ix2 (i 0) (i 1) := by funext a; fin_cases a <;> rfl
  rw [hi]
  exact o_apply x g w (i 0) (i 1)

end Cert.Reference5Ideal.In

end
-- ==== Proof.lean ====
/- The proof of everything claimed: the five calls and their references run to the end and change no argument, and each
   call leaves what its reference leaves. The facts the programs state are met by the generated modules. -/
module

public import proofs.«01_k».proof.Defs
public import proofs.«01_k».proof.Proof.Gen.Kernel
public import proofs.«01_k».proof.Proof.AttnMain
public import proofs.«01_k».proof.Proof.AttnValue
public import proofs.«01_k».proof.Proof.AttnRef
public import proofs.«01_k».proof.Proof.AttnFinite
public import proofs.«01_k».proof.Proof.Gen.ReferenceIdeal.Run
public import proofs.«01_k».proof.Proof.Gen.Kernel2Ideal.Value
public import proofs.«01_k».proof.Proof.FfnValue
public import proofs.«01_k».proof.Proof.Gen.Kernel2
public import proofs.«01_k».proof.Proof.OutFinal
public import proofs.«01_k».proof.Proof.OutRef
public import proofs.«01_k».proof.Proof.Gen.Kernel3
public import proofs.«01_k».proof.Proof.Gen.Reference3Ideal.Run
public import proofs.«01_k».proof.Proof.Gen.Reference2Ideal.Run
public import proofs.«01_k».proof.Proof.CastValue
public import proofs.«01_k».proof.Proof.Gen.Kernel4Ideal.Value
public import proofs.«01_k».proof.Proof.Gen.Kernel4
public import proofs.«01_k».proof.Proof.InFinal
public import proofs.«01_k».proof.Proof.InRef
public import proofs.«01_k».proof.Proof.Gen.Reference4Ideal.Run
public import proofs.«01_k».proof.Proof.Gen.Kernel5Ideal.Value
public import proofs.«01_k».proof.Proof.Gen.Kernel5
public import proofs.«01_k».proof.Proof.Gen.Kernel5.Frame
public import proofs.«01_k».proof.Proof.Gen.Reference5Ideal.Run
public import Idealize.ShloMosaic.Adequacy
public import Idealize.ShloMosaic.Init

@[expose] public section

noncomputable section

namespace Cert.Proof

open Idealize.ShloMosaic Idealize.SL.Sem Cert.Kernel

/-- The two programs' body tables run the same bodies. -/
theorem bodies_eq : Cert.Kernel.defs₀ (F := Bits) = Cert.KernelIdeal.defs₀ (F := Bits) := by
  unfold Cert.Kernel.defs₀ Cert.KernelIdeal.defs₀
  refine congrArg Defs.onTc (funext fun l => funext fun p => ?_)
  have hl : l = (0 : Fin 1) := Subsingleton.elim _ _
  subst hl
  rfl

theorem tables_eq : Cert.Kernel.defs (F := Bits) = Cert.KernelIdeal.defs (F := Bits) :=
  congrArg (Pipeline.defs Cert.KernelIdeal.pcfgs) bodies_eq

theorem frame_kernel : Cert.quiescent_Kernel := fun m ρ _ => by
  have h := Cert.KernelIdeal.Attn.run_frame (F := Bits) m ρ
  rw [← tables_eq] at h
  exact h

theorem frame_ideal : Cert.quiescent_KernelIdeal := fun m ρ _ => Cert.KernelIdeal.Attn.run_frame (F := Ideal) m ρ

theorem frame_ideal_finite : Cert.quiescent_KernelIdeal_pre_finite := fun m ρ _ => Cert.KernelIdeal.Attn.run_frame (F := Ideal) m ρ

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_reference_finite : Cert.quiescent_ReferenceIdeal_pre_finite := fun m ρ _ => frame_reference m ρ trivial

/-- On real queries and keys the kernel and the reference leave the same attention. -/
theorem values : Cert.algebraic_KernelIdeal_ReferenceIdeal_pre_finite := by
  pair_intro
  · have h := θ_run_mono (Cert.KernelIdeal.Attn.run_main (F := Ideal) m g) (fun _ h => h.1)
    run_from h
  · refine θ_run_mono (Cert.ReferenceIdeal.Value.run (F := Ideal) m' g') fun r hr c => ⟨?_, (hr c).2⟩
    obtain ⟨h0, h1, h2, h3⟩ := Cert.Finite.real _ _ _ _ _ (hpre c)
    obtain ⟨a0, a1, a2, a3, a4⟩ := hagree c
    have e := (hr c).1
    rw [a0, a1, a2, a3, a4] at e
    exact e.trans ((Cert.ReferenceIdeal.Attn.reference_value _ _ _ _ _ h0 h1 h2 h3).trans (Cert.KernelIdeal.Attn.final m c h0 h1 h2 h3).symm)

/-- The feed-forward call and its idealization run the same bodies. -/
theorem ffn_bodies_eq : Cert.Kernel2.defs₀ (F := Bits) = Cert.Kernel2Ideal.defs₀ (F := Bits) := by
  unfold Cert.Kernel2.defs₀ Cert.Kernel2Ideal.defs₀
  refine congrArg Defs.onTc (funext fun l => funext fun p => ?_)
  have hl : l = (0 : Fin 1) := Subsingleton.elim _ _
  subst hl
  rfl

theorem ffn_tables_eq : Cert.Kernel2.defs (F := Bits) = Cert.Kernel2Ideal.defs (F := Bits) :=
  congrArg (Pipeline.defs Cert.Kernel2Ideal.pcfgs) ffn_bodies_eq

theorem frame_ffn : Cert.quiescent_Kernel2 := fun m ρ _ => by
  have h := Cert.Kernel2Ideal.Gen.frame (F := Bits) m ρ
  rw [← ffn_tables_eq] at h
  exact h

theorem frame_ffn_ideal : Cert.quiescent_Kernel2Ideal := fun m ρ _ => Cert.Kernel2Ideal.Gen.frame (F := Ideal) m ρ

theorem frame_ffn_reference : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The feed-forward call and its reference leave the same rows, whatever the operands. -/
theorem ffn_values : Cert.algebraic_Kernel2Ideal_Reference2Ideal := by
  pair_intro
  · exact Cert.Kernel2Ideal.Value.run (F := Ideal) m g
  · refine θ_run_mono (Cert.Reference2Ideal.Value.run (F := Ideal) m' g') fun r hr c => ⟨?_, (hr c).2⟩
    obtain ⟨a0, a1, a2, a3⟩ := hagree c
    have e := (hr c).1
    rw [a0, a1, a2, a3] at e
    exact e.trans ((Cert.Reference2Ideal.Ffn.reference_value _ _ _ _).trans (Cert.Kernel2Ideal.Ffn.result m c).symm)

/-- The output projection and its idealization run the same bodies. -/
theorem out_bodies_eq : Cert.Kernel3.defs₀ (F := Bits) = Cert.Kernel3Ideal.defs₀ (F := Bits) := by
  unfold Cert.Kernel3.defs₀ Cert.Kernel3Ideal.defs₀
  refine congrArg Defs.onTc (funext fun l => funext fun p => ?_)
  have hl : l = (0 : Fin 1) := Subsingleton.elim _ _
  subst hl
  rfl

theorem out_tables_eq : Cert.Kernel3.defs (F := Bits) = Cert.Kernel3Ideal.defs (F := Bits) :=
  congrArg (Pipeline.defs Cert.Kernel3Ideal.pcfgs) out_bodies_eq

theorem frame_out_kernel : Cert.quiescent_Kernel3 := fun m ρ _ => by
  have h := Cert.Kernel3Ideal.Gen.frame (F := Bits) m ρ
  rw [← out_tables_eq] at h
  exact h

theorem frame_out_ideal : Cert.quiescent_Kernel3Ideal := fun m ρ _ => Cert.Kernel3Ideal.Gen.frame (F := Ideal) m ρ

theorem frame_out_reference : Cert.quiescent_Reference3Ideal := fun m ρ _ =>
  (θ_run Cert.Reference3Ideal.defs _ _).mono (fun r h => ⟨fun c => (h c).2.2, sem_eq_zero_of_no_sems (by decide) r.2⟩)
    (Cert.Reference3Ideal.Value.run (F := Ideal) m ρ)

/-- The output projection and its reference leave the same two results, whatever the operands. -/
theorem out_values : Cert.algebraic_Kernel3Ideal_Reference3Ideal := by
  pair_intro
  · exact Cert.Kernel3Ideal.Out.run (F := Ideal) m g
  · refine θ_run_mono (Cert.Reference3Ideal.Value.run (F := Ideal) m' g') fun r hr c => ⟨?_, ?_, (hr c).2.2⟩
    · obtain ⟨a0, a1, a2, a3, a4, a5, a6, a7, a8⟩ := hagree c
      have e := (hr c).1
      rw [a0, a1, a2, a3, a4, a5, a6, a7] at e
      exact e.trans ((Cert.Reference3Ideal.Out.first _ _ _ _ _ _ _ _).trans (Cert.Kernel3Ideal.Out.final_new m c).symm)
    · obtain ⟨a0, a1, a2, a3, a4, a5, a6, a7, a8⟩ := hagree c
      have e := (hr c).2.1
      unfold Cert.Reference3Ideal.Value.res_main_v42 at e
      rw [a0, a1, a2, a3, a4, a5, a6, a7, a8] at e
      exact e.trans ((Cert.Reference3Ideal.Out.second _ _ _ _ _ _ _ _ _).trans (Cert.Kernel3Ideal.Out.final_norm m c).symm)

theorem cast_bodies_eq : Cert.Kernel4.defs₀ (F := Bits) = Cert.Kernel4Ideal.defs₀ (F := Bits) := by
  unfold Cert.Kernel4.defs₀ Cert.Kernel4Ideal.defs₀
  refine congrArg Defs.onTc (funext fun l => funext fun p => ?_)
  have hl : l = (0 : Fin 1) := Subsingleton.elim _ _
  subst hl
  rfl

theorem cast_tables_eq : Cert.Kernel4.defs (F := Bits) = Cert.Kernel4Ideal.defs (F := Bits) :=
  congrArg (Pipeline.defs Cert.Kernel4Ideal.pcfgs) cast_bodies_eq

theorem frame_cast_kernel : Cert.quiescent_Kernel4 := fun m ρ _ => by
  have h := Cert.Kernel4Ideal.Gen.frame (F := Bits) m ρ
  rw [← cast_tables_eq] at h
  exact h

theorem frame_cast_ideal : Cert.quiescent_Kernel4Ideal := fun m ρ _ => Cert.Kernel4Ideal.Gen.frame (F := Ideal) m ρ

theorem frame_cast_reference : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The cast and its reference leave the same weights. -/
theorem cast_values : Cert.algebraic_Kernel4Ideal_Reference4Ideal := by
  pair_intro
  · exact Cert.Kernel4Ideal.Value.run_blocks (F := Ideal) m g
  · refine θ_run_mono (Cert.Reference4Ideal.Value.run (F := Ideal) m' g') fun r hr c => ⟨?_, (hr c).2⟩
    have a0 := hagree c
    have e := (hr c).1
    rw [a0] at e
    exact e.trans ((Cert.Reference4Ideal.Cast.layer_eq _).trans (Cert.Kernel4Ideal.Cast.final m c).symm)

theorem frame_in_kernel : Cert.quiescent_Kernel5 := fun m ρ _ => Cert.Kernel5.Gen.frame (F := Bits) m ρ

theorem frame_in_ideal : Cert.quiescent_Kernel5Ideal := fun m ρ _ => Cert.Kernel5Ideal.Gen.frame (F := Ideal) m ρ

theorem frame_in_reference : Cert.quiescent_Reference5Ideal := fun m ρ _ =>
  (θ_run Cert.Reference5Ideal.defs _ _).mono (fun r h => ⟨fun c => (h c).2.2.2.2, sem_eq_zero_of_no_sems (by decide) r.2⟩)
    (Cert.Reference5Ideal.Value.run (F := Ideal) m ρ)

/-- The input projection and its reference leave the same queries, keys, values and gates for the memory, whatever the operands. -/
theorem in_values : Cert.algebraic_Kernel5Ideal_Reference5Ideal := by
  pair_intro
  · exact Cert.Kernel5Ideal.In.run (F := Ideal) m g
  · refine θ_run_mono (Cert.Reference5Ideal.Value.run (F := Ideal) m' g') fun r hr c => ⟨?_, ?_, ?_, ?_, (hr c).2.2.2.2⟩
    · obtain ⟨a0, a1, a2, -⟩ := hagree c
      have e := (hr c).1
      rw [a0, a1, a2] at e
      exact e.trans ((Cert.Reference5Ideal.In.queries_eq _ _ _).trans (Cert.Kernel5Ideal.In.final_q m c).symm)
    · obtain ⟨a0, a1, a2, -⟩ := hagree c
      have e := (hr c).2.1
      rw [a0, a1, a2] at e
      exact e.trans ((Cert.Reference5Ideal.In.keys_eq _ _ _).trans (Cert.Kernel5Ideal.In.final_k m c).symm)
    · obtain ⟨a0, a1, a2, -⟩ := hagree c
      have e := (hr c).2.2.1
      rw [a0, a1, a2] at e
      exact e.trans ((Cert.Reference5Ideal.In.values_eq _ _ _).trans (Cert.Kernel5Ideal.In.final_v m c).symm)
    · obtain ⟨a0, a1, a2, -⟩ := hagree c
      have e := (hr c).2.2.2.1
      rw [a0, a1, a2] at e
      exact e.trans ((Cert.Reference5Ideal.In.opens_eq _ _ _).trans (Cert.Kernel5Ideal.In.final_o m c).symm)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts, Cert.Finite.facts,
  frame_kernel, frame_ideal, frame_ideal_finite, frame_reference, frame_reference_finite,
  frame_ffn, frame_ffn_ideal, frame_ffn_reference, frame_out_kernel, frame_out_ideal, frame_out_reference,
  frame_cast_kernel, frame_cast_ideal, frame_cast_reference, frame_in_kernel, frame_in_ideal, frame_in_reference,
  trivial, values, trivial, ffn_values, trivial, out_values, trivial, cast_values, trivial, in_values⟩

end Cert.Proof

end
